-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_history [hPre_finite_history : Cert.Pre_finite_history.Facts] (m : (ℓ : Loc Cert.KernelIdeal.nD Cert.KernelIdeal.τ Cert.KernelIdeal.sig) → Buf (Elt Ideal) ℓ) : Prop :=
  ∀ c : Dev Cert.KernelIdeal.nD,
    (Cert.Pre_finite_history.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_history [hPre_finite_history : Cert.Pre_finite_history.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_history.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_history [hKernelIdeal : Cert.KernelIdeal.Facts] [hPre_finite_history : Cert.Pre_finite_history.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_history m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_history [hReferenceIdeal : Cert.ReferenceIdeal.Facts] [hPre_finite_history : Cert.Pre_finite_history.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_history m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_history [hKernelIdeal : Cert.KernelIdeal.Facts] [hReferenceIdeal : Cert.ReferenceIdeal.Facts] [hPre_finite_history : Cert.Pre_finite_history.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_history m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v5_0)) (v3 : (c : Dev Cert.KernelIdeal.nD) → Buf (Elt Ideal) ((c.tc : Thread Cert.KernelIdeal.nD Cert.KernelIdeal.τ).loc Cert.KernelIdeal.main_v3_2)) (v4 : (c : Dev Cert.KernelIdeal.nD) → Buf (Elt Ideal) ((c.tc : Thread Cert.KernelIdeal.nD Cert.KernelIdeal.τ).loc Cert.KernelIdeal.main_v5_1)) (v5 : (c : Dev Cert.KernelIdeal.nD) → Buf (Elt Ideal) ((c.tc : Thread Cert.KernelIdeal.nD Cert.KernelIdeal.τ).loc Cert.KernelIdeal.main_v2_0)) (v6 : (c : Dev Cert.KernelIdeal.nD) → Buf (Elt Ideal) ((c.tc : Thread Cert.KernelIdeal.nD Cert.KernelIdeal.τ).loc Cert.KernelIdeal.main_v5_2)) (v7 : (c : Dev Cert.KernelIdeal.nD) → Buf (Elt Ideal) ((c.tc : Thread Cert.KernelIdeal.nD Cert.KernelIdeal.τ).loc Cert.KernelIdeal.main_v3_3)) (v8 : (c : Dev Cert.KernelIdeal.nD) → Buf (Elt Ideal) ((c.tc : Thread Cert.KernelIdeal.nD Cert.KernelIdeal.τ).loc Cert.KernelIdeal.main_v5_3)) (v9 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_v5_1) = v4 c
          ∧ r.2.mem ((c.tc : Thread Cert.KernelIdeal.nD Cert.KernelIdeal.τ).loc Cert.KernelIdeal.main_v2_0) = v5 c
          ∧ r.2.mem ((c.tc : Thread Cert.KernelIdeal.nD Cert.KernelIdeal.τ).loc Cert.KernelIdeal.main_v5_2) = v6 c
          ∧ r.2.mem ((c.tc : Thread Cert.KernelIdeal.nD Cert.KernelIdeal.τ).loc Cert.KernelIdeal.main_v3_3) = v7 c
          ∧ r.2.mem ((c.tc : Thread Cert.KernelIdeal.nD Cert.KernelIdeal.τ).loc Cert.KernelIdeal.main_v5_3) = v8 c
          ∧ r.2.mem ((c.tc : Thread Cert.KernelIdeal.nD Cert.KernelIdeal.τ).loc Cert.KernelIdeal.main_v5_4) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59_0) = v0 c
          ∧ r.2.mem ((c.tc : Thread Cert.ReferenceIdeal.nD Cert.ReferenceIdeal.τ).loc Cert.ReferenceIdeal.main_v59_1) = v1 c
          ∧ r.2.mem ((c.tc : Thread Cert.ReferenceIdeal.nD Cert.ReferenceIdeal.τ).loc Cert.ReferenceIdeal.main_v59_2) = v2 c
          ∧ r.2.mem ((c.tc : Thread Cert.ReferenceIdeal.nD Cert.ReferenceIdeal.τ).loc Cert.ReferenceIdeal.main_v59_3) = v3 c
          ∧ r.2.mem ((c.tc : Thread Cert.ReferenceIdeal.nD Cert.ReferenceIdeal.τ).loc Cert.ReferenceIdeal.main_v12) = v4 c
          ∧ r.2.mem ((c.tc : Thread Cert.ReferenceIdeal.nD Cert.ReferenceIdeal.τ).loc Cert.ReferenceIdeal.main_v59_4) = v5 c
          ∧ r.2.mem ((c.tc : Thread Cert.ReferenceIdeal.nD Cert.ReferenceIdeal.τ).loc Cert.ReferenceIdeal.main_v24) = v6 c
          ∧ r.2.mem ((c.tc : Thread Cert.ReferenceIdeal.nD Cert.ReferenceIdeal.τ).loc Cert.ReferenceIdeal.main_v59_5) = v7 c
          ∧ r.2.mem ((c.tc : Thread Cert.ReferenceIdeal.nD Cert.ReferenceIdeal.τ).loc Cert.ReferenceIdeal.main_v36) = v8 c
          ∧ r.2.mem ((c.tc : Thread Cert.ReferenceIdeal.nD Cert.ReferenceIdeal.τ).loc Cert.ReferenceIdeal.main_v56) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_history : Cert.Pre_finite_history.Facts),
    quiescent_Kernel (hKernel := hKernel)
    ∧ quiescent_KernelIdeal (hKernelIdeal := hKernelIdeal)
    ∧ quiescent_KernelIdeal_pre_finite_history (hKernelIdeal := hKernelIdeal) (hPre_finite_history := hPre_finite_history)
    ∧ quiescent_ReferenceIdeal (hReferenceIdeal := hReferenceIdeal)
    ∧ quiescent_ReferenceIdeal_pre_finite_history (hReferenceIdeal := hReferenceIdeal) (hPre_finite_history := hPre_finite_history)
    ∧ preserves_Kernel_KernelIdeal
    ∧ algebraic_KernelIdeal_ReferenceIdeal_pre_finite_history (hKernelIdeal := hKernelIdeal) (hReferenceIdeal := hReferenceIdeal) (hPre_finite_history := hPre_finite_history)
-- ==== Pre_finite_history.lean ====
abbrev S2x3072x3200 : Shape := ⟨3, ![2, 3072, 3200]⟩
abbrev S3200x2048 : Shape := ⟨2, ![3200, 2048]⟩
abbrev S2x3072x2048 : Shape := ⟨3, ![2, 3072, 2048]⟩
abbrev S3x16 : Shape := ⟨2, ![3, 16]⟩
abbrev S_ : Shape := ⟨0, ![]⟩

class Facts : Prop where
  bcast_S_S3x16 : S_.BroadcastsInDim S3x16 (![] : Fin 0 → Fin S3x16.rank)

variable [Facts]

def fn {F : FTy → Type} [FloatOps F] (main_arg0 : FVec F S2x3072x3200 .bf16) (main_arg1 : FVec F S3200x2048 .bf16) (main_arg2 : FVec F S2x3072x2048 .bf16) (main_arg3 : FVec F S3x16 .f32) (main_arg4 : IVec S_ 32) : IVec S3x16 1 :=
  let main_v0 : FVec F S3x16 .f32 := Host.absf main_arg3
  let main_cst : FVec F S_ .f32 := constant S_ .f32 0x7F7FFFFF#32
  let main_v1 : FVec F S3x16 .f32 := broadcastInDim S3x16 ![] bcast_S_S3x16 main_cst
  let main_v2 : IVec S3x16 1 := cmpf .ole main_v0 main_v1
  main_v2
-- ==== Kernel.lean ====
abbrev S2x3072x3200 : Shape := ⟨3, ![2, 3072, 3200]⟩
abbrev S3200x2048 : Shape := ⟨2, ![3200, 2048]⟩
abbrev S2x3072x2048 : Shape := ⟨3, ![2, 3072, 2048]⟩
abbrev S3x16 : Shape := ⟨2, ![3, 16]⟩
abbrev S_ : Shape := ⟨0, ![]⟩
abbrev S6144x3200 : Shape := ⟨2, ![6144, 3200]⟩
abbrev S6144x2048 : Shape := ⟨2, ![6144, 2048]⟩
abbrev S16x128 : Shape := ⟨2, ![16, 128]⟩
abbrev S320x2048 : Shape := ⟨2, ![320, 2048]⟩
abbrev S1x1 : Shape := ⟨2, ![1, 1]⟩
abbrev S320x128 : Shape := ⟨2, ![320, 128]⟩
abbrev S20x16x128 : Shape := ⟨3, ![20, 16, 128]⟩
abbrev S256x3200 : Shape := ⟨2, ![256, 3200]⟩
abbrev S256x2048 : Shape := ⟨2, ![256, 2048]⟩
abbrev S256x128 : Shape := ⟨2, ![256, 128]⟩
abbrev S16x16x128 : Shape := ⟨3, ![16, 16, 128]⟩
abbrev S1 : Shape := ⟨1, ![1]⟩
abbrev S6144x640 : Shape := ⟨2, ![6144, 640]⟩
abbrev S640x2048 : Shape := ⟨2, ![640, 2048]⟩
abbrev S1x16x128 : Shape := ⟨3, ![1, 16, 128]⟩
abbrev S1x1x1 : Shape := ⟨3, ![1, 1, 1]⟩
abbrev S3x1 : Shape := ⟨2, ![3, 1]⟩

abbrev nBuf : Space → Nat
  | .hbm => 21
  | .vmem => 30
  | .smem => 7
  | _ => 0

abbrev bufTy : (tb : Table) → Fin (tcTables nBuf tb) → BufTy
  | .hbm, ⟨0, _⟩ => ⟨S2x3072x3200, .bf16⟩
  | .hbm, ⟨1, _⟩ => ⟨S3200x2048, .bf16⟩
  | .hbm, ⟨2, _⟩ => ⟨S2x3072x2048, .bf16⟩
  | .hbm, ⟨3, _⟩ => ⟨S3x16, .f32⟩
  | .hbm, ⟨4, _⟩ => ⟨S_, .i32⟩
  | .hbm, ⟨5, _⟩ => ⟨S6144x3200, .bf16⟩
  | .hbm, ⟨6, _⟩ => ⟨S6144x2048, .bf16⟩
  | .hbm, ⟨7, _⟩ => ⟨S3200x2048, .fp8e4m3⟩
  | .hbm, ⟨8, _⟩ => ⟨S16x128, .bf16⟩
  | .hbm, ⟨9, _⟩ => ⟨S6144x2048, .bf16⟩
  | .hbm, ⟨10, _⟩ => ⟨S6144x3200, .bf16⟩
  | .hbm, ⟨11, _⟩ => ⟨S6144x3200, .fp8e4m3⟩
  | .hbm, ⟨12, _⟩ => ⟨S6144x2048, .fp8e5m2⟩
  | .hbm, ⟨13, _⟩ => ⟨S16x128, .bf16⟩
  | .hbm, ⟨14, _⟩ => ⟨S16x128, .bf16⟩
  | .hbm, ⟨15, _⟩ => ⟨S1, .i32⟩
  | .hbm, ⟨16, _⟩ => ⟨S3200x2048, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S3x16, .f32⟩
  | .local _ .vmem, ⟨0, _⟩ => ⟨S320x2048, .bf16⟩
  | .local _ .vmem, ⟨1, _⟩ => ⟨S320x2048, .bf16⟩
  | .local _ .vmem, ⟨2, _⟩ => ⟨S320x2048, .fp8e4m3⟩
  | .local _ .vmem, ⟨3, _⟩ => ⟨S320x2048, .fp8e4m3⟩
  | .local _ .vmem, ⟨4, _⟩ => ⟨S16x128, .bf16⟩
  | .local _ .vmem, ⟨5, _⟩ => ⟨S256x3200, .bf16⟩
  | .local _ .vmem, ⟨6, _⟩ => ⟨S256x3200, .bf16⟩
  | .local _ .vmem, ⟨7, _⟩ => ⟨S256x2048, .bf16⟩
  | .local _ .vmem, ⟨8, _⟩ => ⟨S256x2048, .bf16⟩
  | .local _ .vmem, ⟨9, _⟩ => ⟨S3200x2048, .fp8e4m3⟩
  | .local _ .vmem, ⟨10, _⟩ => ⟨S256x2048, .bf16⟩
  | .local _ .vmem, ⟨11, _⟩ => ⟨S256x2048, .bf16⟩
  | .local _ .vmem, ⟨12, _⟩ => ⟨S256x3200, .bf16⟩
  | .local _ .vmem, ⟨13, _⟩ => ⟨S256x3200, .bf16⟩
  | .local _ .vmem, ⟨14, _⟩ => ⟨S256x3200, .fp8e4m3⟩
  | .local _ .vmem, ⟨15, _⟩ => ⟨S256x3200, .fp8e4m3⟩
  | .local _ .vmem, ⟨16, _⟩ => ⟨S256x2048, .fp8e5m2⟩
  | .local _ .vmem, ⟨17, _⟩ => ⟨S256x2048, .fp8e5m2⟩
  | .local _ .vmem, ⟨18, _⟩ => ⟨S16x128, .bf16⟩
  | .local _ .vmem, ⟨19, _⟩ => ⟨S16x128, .bf16⟩
  | .local _ .vmem, ⟨20, _⟩ => ⟨S3x16, .f32⟩
  | .local _ .vmem, ⟨21, _⟩ => ⟨S16x128, .bf16⟩
  | .local _ .vmem, ⟨22, _⟩ => ⟨S16x128, .bf16⟩
  | .local _ .vmem, ⟨23, _⟩ => ⟨S16x128, .bf16⟩
  | .local _ .vmem, ⟨24, _⟩ => ⟨S6144x640, .fp8e4m3⟩
  | .local _ .vmem, ⟨25, _⟩ => ⟨S6144x640, .fp8e4m3⟩
  | .local _ .vmem, ⟨26, _⟩ => ⟨S6144x2048, .fp8e5m2⟩
  | .local _ .vmem, ⟨27, _⟩ => ⟨S640x2048, .f32⟩
  | .local _ .vmem, ⟨28, _⟩ => ⟨S640x2048, .f32⟩
  | .local _ .vmem, ⟨29, _⟩ => ⟨S3x16, .f32⟩
  | .local _ .smem, ⟨0, _⟩ => ⟨S3x16, .f32⟩
  | .local _ .smem, ⟨1, _⟩ => ⟨S3x16, .f32⟩
  | .local _ .smem, ⟨2, _⟩ => ⟨S3x16, .f32⟩
  | .local _ .smem, ⟨3, _⟩ => ⟨S1, .i32⟩
  | .local _ .smem, ⟨4, _⟩ => ⟨S1, .f32⟩
  | .local _ .smem, ⟨5, _⟩ => ⟨S1, .f32⟩
  | .local _ .smem, ⟨6, _⟩ => ⟨S1, .f32⟩
  | _, _ => ⟨S2x3072x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg8_1 : Ref sig .tc := ⟨.vmem, 28, rfl⟩
abbrev cc2_stg12_0 : Ref sig .tc := ⟨.vmem, 29, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc2_stg1_0 : Ref sig .tc := ⟨.smem, 3, rfl⟩
abbrev cc2_stg9_0 : Ref sig .tc := ⟨.smem, 4, rfl⟩
abbrev cc2_stg10_0 : Ref sig .tc := ⟨.smem, 5, rfl⟩
abbrev cc2_stg11_0 : Ref sig .tc := ⟨.smem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc2_sem8_1 : DmaSem sig := 32
abbrev cc2_sem9_0 : DmaSem sig := 33
abbrev cc2_sem10_0 : DmaSem sig := 34
abbrev cc2_sem11_0 : DmaSem sig := 35
abbrev cc2_sem12_0 : DmaSem sig := 36

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32_43 : BitVec 32 := 0#32
  let v133 : BitVec 1 := Scalar.cmpi .eq arg0 c0_i32_43
  let v134 : BitVec 32 := Scalar.extui v133
  let c0_i32_44 : BitVec 32 := 0#32
  let v135 : BitVec 1 := Scalar.cmpi .ne v134 c0_i32_44
  v135

def k0_cond2 (i : grid0.Coords) : BitVec 1 :=
  let arg0 : BitVec 32 := BitVec.ofNat 32 (i 0).val
  let c0_i32_45 : BitVec 32 := 0#32
  let v136 : BitVec 1 := Scalar.cmpi .ne arg0 c0_i32_45
  let v137 : BitVec 32 := Scalar.extui v136
  let c0_i32_46 : BitVec 32 := 0#32
  let v138 : BitVec 1 := Scalar.cmpi .ne v137 c0_i32_46
  v138

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S320x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![24], ![false]⟩

def k1_cond1 (i : grid1.Coords) : BitVec 1 :=
  let arg0 : BitVec 32 := BitVec.ofNat 32 (i 0).val
  let c0_i32_196 : BitVec 32 := 0#32
  let v397 : BitVec 1 := Scalar.cmpi .eq arg0 c0_i32_196
  let v398 : BitVec 32 := Scalar.extui v397
  let c0_i32_197 : BitVec 32 := 0#32
  let v399 : BitVec 1 := Scalar.cmpi .ne v398 c0_i32_197
  v399

def k1_cond2 (i : grid1.Coords) : BitVec 1 :=
  let arg0 : BitVec 32 := BitVec.ofNat 32 (i 0).val
  let c0_i32_198 : BitVec 32 := 0#32
  let v400 : BitVec 1 := Scalar.cmpi .ne arg0 c0_i32_198
  let v401 : BitVec 32 := Scalar.extui v400
  let c0_i32_199 : BitVec 32 := 0#32
  let v402 : BitVec 1 := Scalar.cmpi .ne v401 c0_i32_199
  v402

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S3x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x3200 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3200x2048 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x3200 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x3200 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .fp8e5m2 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S16x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![5], ![false]⟩

def k2_cond1 (i : grid2.Coords) : BitVec 1 :=
  let arg0 : BitVec 32 := BitVec.ofNat 32 (i 0).val
  let c0_i32_175 : BitVec 32 := 0#32
  let v276 : BitVec 1 := Scalar.cmpi .eq arg0 c0_i32_175
  let v277 : BitVec 32 := Scalar.extui v276
  let c0_i32_176 : BitVec 32 := 0#32
  let v278 : BitVec 1 := Scalar.cmpi .ne v277 c0_i32_176
  v278

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S3x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S6144x640 .fp8e4m3 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S6144x2048 .fp8e5m2 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S640x2048 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .smem S1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .smem S1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .smem S1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S3x16 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]
-- ==== ReferenceIdeal.lean ====
abbrev S2x3072x3200 : Shape := ⟨3, ![2, 3072, 3200]⟩
abbrev S3200x2048 : Shape := ⟨2, ![3200, 2048]⟩
abbrev S2x3072x2048 : Shape := ⟨3, ![2, 3072, 2048]⟩
abbrev S3x16 : Shape := ⟨2, ![3, 16]⟩
abbrev S_ : Shape := ⟨0, ![]⟩
abbrev S254 : Shape := ⟨1, ![254]⟩
abbrev S3 : Shape := ⟨1, ![3]⟩
abbrev S1 : Shape := ⟨1, ![1]⟩
abbrev S16 : Shape := ⟨1, ![16]⟩
abbrev S1x16 : Shape := ⟨2, ![1, 16]⟩
abbrev S3x1 : Shape := ⟨2, ![3, 1]⟩
abbrev S6144x3200 : Shape := ⟨2, ![6144, 3200]⟩
abbrev S6144x2048 : Shape := ⟨2, ![6144, 2048]⟩

abbrev nBuf : Space → Nat
  | .hbm => 116
  | .vmem => 9
  | .smem => 3
  | _ => 0

abbrev bufTy : (tb : Table) → Fin (tcTables nBuf tb) → BufTy
  | .hbm, ⟨0, _⟩ => ⟨S2x3072x3200, .bf16⟩
  | .hbm, ⟨1, _⟩ => ⟨S3200x2048, .bf16⟩
  | .hbm, ⟨2, _⟩ => ⟨S2x3072x2048, .bf16⟩
  | .hbm, ⟨3, _⟩ => ⟨S3x16, .f32⟩
  | .hbm, ⟨4, _⟩ => ⟨S_, .i32⟩
  | .hbm, ⟨5, _⟩ => ⟨S254, .f32⟩
  | .hbm, ⟨6, _⟩ => ⟨S254, .f32⟩
  | .hbm, ⟨7, _⟩ => ⟨S254, .f32⟩
  | .hbm, ⟨8, _⟩ => ⟨S_, .f32⟩
  | .hbm, ⟨9, _⟩ => ⟨S3, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S254, .f32⟩
  | .hbm, ⟨16, _⟩ => ⟨S254, .i1⟩
  | .hbm, ⟨17, _⟩ => ⟨S_, .f32⟩
  | .hbm, ⟨18, _⟩ => ⟨S254, .f32⟩
  | .hbm, ⟨19, _⟩ => ⟨S254, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i1⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S254, .f32⟩
  | .hbm, ⟨35, _⟩ => ⟨S254, .i1⟩
  | .hbm, ⟨36, _⟩ => ⟨S_, .f32⟩
  | .hbm, ⟨37, _⟩ => ⟨S254, .f32⟩
  | .hbm, ⟨38, _⟩ => ⟨S254, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S254, .f32⟩
  | .hbm, ⟨54, _⟩ => ⟨S254, .i1⟩
  | .hbm, ⟨55, _⟩ => ⟨S_, .f32⟩
  | .hbm, ⟨56, _⟩ => ⟨S254, .f32⟩
  | .hbm, ⟨57, _⟩ => ⟨S254, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1, .f32⟩
  | .hbm, ⟨67, _⟩ => ⟨S2x3072x3200, .bf16⟩
  | .hbm, ⟨68, _⟩ => ⟨S_, .bf16⟩
  | .hbm, ⟨69, _⟩ => ⟨S_, .bf16⟩
  | .hbm, ⟨70, _⟩ => ⟨S_, .f32⟩
  | .hbm, ⟨71, _⟩ => ⟨S3200x2048, .bf16⟩
  | .hbm, ⟨72, _⟩ => ⟨S_, .bf16⟩
  | .hbm, ⟨73, _⟩ => ⟨S_, .bf16⟩
  | .hbm, ⟨74, _⟩ => ⟨S_, .f32⟩
  | .hbm, ⟨75, _⟩ => ⟨S2x3072x2048, .bf16⟩
  | .hbm, ⟨76, _⟩ => ⟨S_, .bf16⟩
  | .hbm, ⟨77, _⟩ => ⟨S_, .bf16⟩
  | .hbm, ⟨78, _⟩ => ⟨S_, .f32⟩
  | .hbm, ⟨79, _⟩ => ⟨S1, .f32⟩
  | .hbm, ⟨80, _⟩ => ⟨S1, .f32⟩
  | .hbm, ⟨81, _⟩ => ⟨S1, .f32⟩
  | .hbm, ⟨82, _⟩ => ⟨S3, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i1⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i1⟩
  | .hbm, ⟨96, _⟩ => ⟨S_, .i1⟩
  | .hbm, ⟨97, _⟩ => ⟨S_, .i1⟩
  | .hbm, ⟨98, _⟩ => ⟨S_, .i32⟩
  | .hbm, ⟨99, _⟩ => ⟨S_, .i32⟩
  | .hbm, ⟨100, _⟩ => ⟨S16, .i32⟩
  | .hbm, ⟨101, _⟩ => ⟨S1x16, .i32⟩
  | .hbm, ⟨102, _⟩ => ⟨S1x16, .i32⟩
  | .hbm, ⟨103, _⟩ => ⟨S1x16, .i1⟩
  | .hbm, ⟨104, _⟩ => ⟨S3x1, .f32⟩
  | .hbm, ⟨105, _⟩ => ⟨S3x16, .i1⟩
  | .hbm, ⟨106, _⟩ => ⟨S3x16, .f32⟩
  | .hbm, ⟨107, _⟩ => ⟨S3x16, .f32⟩
  | .hbm, ⟨108, _⟩ => ⟨S6144x3200, .bf16⟩
  | .hbm, ⟨109, _⟩ => ⟨S6144x2048, .bf16⟩
  | .hbm, ⟨110, _⟩ => ⟨S6144x2048, .bf16⟩
  | .hbm, ⟨111, _⟩ => ⟨S6144x3200, .bf16⟩
  | .hbm, ⟨112, _⟩ => ⟨S3200x2048, .f32⟩
  | .hbm, ⟨113, _⟩ => ⟨S6144x3200, .fp8e4m3⟩
  | .hbm, ⟨114, _⟩ => ⟨S3200x2048, .fp8e4m3⟩
  | .hbm, ⟨115, _⟩ => ⟨S6144x2048, .fp8e5m2⟩
  | .local _ .vmem, ⟨0, _⟩ => ⟨S6144x3200, .bf16⟩
  | .local _ .vmem, ⟨1, _⟩ => ⟨S3200x2048, .bf16⟩
  | .local _ .vmem, ⟨2, _⟩ => ⟨S6144x2048, .bf16⟩
  | .local _ .vmem, ⟨3, _⟩ => ⟨S6144x2048, .bf16⟩
  | .local _ .vmem, ⟨4, _⟩ => ⟨S6144x3200, .bf16⟩
  | .local _ .vmem, ⟨5, _⟩ => ⟨S3200x2048, .f32⟩
  | .local _ .vmem, ⟨6, _⟩ => ⟨S6144x3200, .fp8e4m3⟩
  | .local _ .vmem, ⟨7, _⟩ => ⟨S3200x2048, .fp8e4m3⟩
  | .local _ .vmem, ⟨8, _⟩ => ⟨S6144x2048, .fp8e5m2⟩
  | .local _ .smem, ⟨0, _⟩ => ⟨S1, .f32⟩
  | .local _ .smem, ⟨1, _⟩ => ⟨S1, .f32⟩
  | .local _ .smem, ⟨2, _⟩ => ⟨S1, .f32⟩
  | _, _ => ⟨S2x3072x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_3 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_4 : Ref sig .tc := ⟨.hbm, 17, rfl⟩
abbrev main_call0_v0 : Ref sig .tc := ⟨.hbm, 18, rfl⟩
abbrev main_v7 : Ref sig .tc := ⟨.hbm, 19, rfl⟩
abbrev main_cst_5 : Ref sig .tc := ⟨.hbm, 20, rfl⟩
abbrev main_v8 : Ref sig .tc := ⟨.hbm, 21, rfl⟩
abbrev main_cst_6 : Ref sig .tc := ⟨.hbm, 22, rfl⟩
abbrev main_v9 : Ref sig .tc := ⟨.hbm, 23, rfl⟩
abbrev main_cst_7 : Ref sig .tc := ⟨.hbm, 24, rfl⟩
abbrev main_v10 : Ref sig .tc := ⟨.hbm, 25, rfl⟩
abbrev main_cst_8 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_9 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_10 : Ref sig .tc := ⟨.hbm, 36, rfl⟩
abbrev main_call2_v0 : Ref sig .tc := ⟨.hbm, 37, rfl⟩
abbrev main_v19 : Ref sig .tc := ⟨.hbm, 38, rfl⟩
abbrev main_cst_11 : Ref sig .tc := ⟨.hbm, 39, rfl⟩
abbrev main_v20 : Ref sig .tc := ⟨.hbm, 40, rfl⟩
abbrev main_cst_12 : Ref sig .tc := ⟨.hbm, 41, rfl⟩
abbrev main_v21 : Ref sig .tc := ⟨.hbm, 42, rfl⟩
abbrev main_cst_13 : Ref sig .tc := ⟨.hbm, 43, rfl⟩
abbrev main_v22 : Ref sig .tc := ⟨.hbm, 44, rfl⟩
abbrev main_cst_14 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_15 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_16 : Ref sig .tc := ⟨.hbm, 55, rfl⟩
abbrev main_call4_v0 : Ref sig .tc := ⟨.hbm, 56, rfl⟩
abbrev main_v31 : Ref sig .tc := ⟨.hbm, 57, rfl⟩
abbrev main_cst_17 : Ref sig .tc := ⟨.hbm, 58, rfl⟩
abbrev main_v32 : Ref sig .tc := ⟨.hbm, 59, rfl⟩
abbrev main_cst_18 : Ref sig .tc := ⟨.hbm, 60, rfl⟩
abbrev main_v33 : Ref sig .tc := ⟨.hbm, 61, rfl⟩
abbrev main_cst_19 : Ref sig .tc := ⟨.hbm, 62, rfl⟩
abbrev main_v34 : Ref sig .tc := ⟨.hbm, 63, rfl⟩
abbrev main_cst_20 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_21 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_22 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_23 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c : Ref sig .tc := ⟨.hbm, 83, rfl⟩
abbrev main_call6_v0 : Ref sig .tc := ⟨.hbm, 84, rfl⟩
abbrev main_call6_c : Ref sig .tc := ⟨.hbm, 85, rfl⟩
abbrev main_call6_v1 : Ref sig .tc := ⟨.hbm, 86, rfl⟩
abbrev main_call6_c_0 : Ref sig .tc := ⟨.hbm, 87, rfl⟩
abbrev main_call6_v2 : Ref sig .tc := ⟨.hbm, 88, rfl⟩
abbrev main_call6_v3 : Ref sig .tc := ⟨.hbm, 89, rfl⟩
abbrev main_call6_c_1 : Ref sig .tc := ⟨.hbm, 90, rfl⟩
abbrev main_call6_v4 : Ref sig .tc := ⟨.hbm, 91, rfl⟩
abbrev main_call6_c_2 : Ref sig .tc := ⟨.hbm, 92, rfl⟩
abbrev main_call6_v5 : Ref sig .tc := ⟨.hbm, 93, rfl⟩
abbrev main_call6_c_3 : Ref sig .tc := ⟨.hbm, 94, rfl⟩
abbrev main_call6_v6 : Ref sig .tc := ⟨.hbm, 95, rfl⟩
abbrev main_call6_v7 : Ref sig .tc := ⟨.hbm, 96, rfl⟩
abbrev main_call6_v8 : Ref sig .tc := ⟨.hbm, 97, rfl⟩
abbrev main_call6_v9 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_call7_v0 : Ref sig .tc := ⟨.hbm, 105, rfl⟩
abbrev main_call7_v1 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59_0 : Ref sig .tc := ⟨.hbm, 110, rfl⟩
abbrev main_v59_1 : Ref sig .tc := ⟨.hbm, 111, rfl⟩
abbrev main_v59_2 : Ref sig .tc := ⟨.hbm, 112, rfl⟩
abbrev main_v59_3 : Ref sig .tc := ⟨.hbm, 113, rfl⟩
abbrev main_v59_4 : Ref sig .tc := ⟨.hbm, 114, rfl⟩
abbrev main_v59_5 : Ref sig .tc := ⟨.hbm, 115, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S6144x3200 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3200x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x3200 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3200x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x3200 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3200x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6144x2048 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelFrame.lean ====
module

public import proofs.«01_k».proof.Defs
public import proofs.«01_k».proof.Proof.Gen.Kernel
public import proofs.«01_k».proof.Proof.Gen.KernelIdeal
public import Idealize.ShloMosaic.Lib.Tactic
public import Idealize.ShloMosaic.Adequacy
public import Idealize.ShloMosaic.Init

@[expose] public section

/-! The kernel's frame at the floats of the machine, from the frame of the same text at any floats. -/

set_option maxRecDepth 16384

noncomputable section

namespace Cert.Proof

open Idealize.ShloMosaic Idealize.SL.Sem

/-- The frame of `KernelIdeal`'s text at the floats of the machine, as a statement. -/
def FrameAtBits : Prop :=
  ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The two printed texts are one: `Kernel` and `KernelIdeal` differ in their names only, as no rule rewrote the kernel.
    So the frame of the one, read at the floats of the machine, is the frame of the other. -/
theorem quiescent_of_frameAtBits (h : FrameAtBits) : Cert.quiescent_Kernel := by
  have e : FrameAtBits = (∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)) := by sl_kernel_rfl
  exact fun m g _ => (e.mp h) m g

end Cert.Proof
end
-- ==== Proof.Frame.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-! The weight quantiser (first kernel call) runs from any contents `V` of the buffers, and what it leaves in each output window. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_w` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Whether output 3's buffer is FRESH at each position `1 ‥ N` — holds nothing the body stored since the region's entry or the
    last write-back (written back at the point before, or idle there and fresh before it) —, as a bitmask computed ahead, bit `n` for position `n + 1`; position 0 is fresh. `freshTab0_3_step` checks it against the configuration's own
    step point by point and Lib/Pipeline/TableIdle.lean `Cfg.fresh_tab` makes it `Cfg.fresh` (`fresh0_3_eq`). -/
def freshTab0_3 : ℕ → Bool
  | 0 => true
  | n + 1 => (0x200 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the points of case A the printed configuration (`Cfg.idle`) calls output 3 live: the case stores into it. -/
theorem liveAt0_3_A : ∀ t : Fin cfg0.N, cond0_0 (grid0.coords t) → ¬cond0_1 (grid0.coords t) → cfg0.idle 3 (grid0.coords t) = false := by decide +kernel
/-- At the points of case B the printed configuration (`Cfg.idle`) calls output 3 live: the case stores into it. -/
theorem liveAt0_3_B : ∀ t : Fin cfg0.N, ¬cond0_0 (grid0.coords t) → cond0_1 (grid0.coords t) → cfg0.idle 3 (grid0.coords t) = false := by decide +kernel
/-- At the points of case B, which keeps output 3's prior contents (reads it before covering, or covers it in part), the
    window's buffer is not FRESH: something was stored into it since the region's entry or its last write-back, idle points
    between or not (Lib/Pipeline/TableIdle.lean `Cfg.fresh`, by the table `freshTab0_3`). -/
theorem notFresh0_3_B : ∀ t : Fin cfg0.N, ¬cond0_0 (grid0.coords t) → cond0_1 (grid0.coords t) → cfg0.fresh 3 t.val = false := by
  intro t; rw [fresh0_3_eq t]; revert t; decide +kernel

/-! ## The kernel body on any staging memrefs: a subtype the run finds -/

/-- One staging buffer of output window 2, through which its contents are stated (`View.read_writes_of_cover`: the
    choice does not matter). -/
abbrev VO0_2 : View sig .tc .vmem S320x2048 .fp8e4m3 := (Memref.whole cc0_stg2_0 : Memref sig .tc .vmem S320x2048 .fp8e4m3).view
/-- One staging buffer of output window 3, through which its contents are stated (`View.read_writes_of_cover`: the
    choice does not matter). -/
abbrev VO0_3 : View sig .tc .vmem S16x128 .bf16 := (Memref.whole cc0_stg3_0 : Memref sig .tc .vmem S16x128 .bf16).view
/-- Each window's current staging memref at point `t`, spelled as the pipeline passes it (`bodyAt0`), and its wholeness. -/
abbrev ms0_0 (t : Fin cfg0.N) : Memref sig .tc .smem S3x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S320x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S320x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .bf16 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : cond0_0 i) (hc1 : ¬cond0_1 i)
    (x0 : Vec F S3x16 .f32) (x1 : Vec F S320x2048 .bf16) :
    Σ' (L2 : List (View.Piece (Elt F) S320x2048 .fp8e4m3)), { L3 : List (View.Piece (Elt F) S16x128 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_quant_w i arg1 harg1 arg2 harg2 arg3 harg3 arg4 harg4) K } := by
  refine ⟨?_, ?_, fun E K => ?run⟩
  case run =>
    simp only [cc0_quant_w_eq_skeleton]; unfold cc0_quant_w_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block (1 store of `S320x2048`, checked by the kernel's evaluation: Lib/Ring.lean `Piece.tiledL`, linear in the pieces, through a loop's `@[irreducible]` trip theorem too), so they cover it. -/
theorem cover0_A_2 (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : cond0_0 i) (hc1 : ¬cond0_1 i)
    (x0 : Vec F S3x16 .f32) (x1 : Vec F S320x2048 .bf16) (y : S320x2048.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S320x2048.size (by sl_kernel_rfl) y

/-- What case A leaves in output 2's staging buffer: its pieces read back over junk. -/
def out0_A_2 (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : cond0_0 i) (hc1 : ¬cond0_1 i)
    (x0 : Vec F S3x16 .f32) (x1 : Vec F S320x2048 .bf16) : Vec F S320x2048 .fp8e4m3 :=
  VO0_2.read (Elt F) (VO0_2.writes (Elt F) VO0_2.junk (kernelRun0_A c i arg1 harg1 arg2 harg2 arg3 harg3 arg4 harg4 hc0 hc1 x0 x1).1)

/-- Case A's pieces for output 3 tile its block (1 store of `S16x128`, checked by the kernel's evaluation: Lib/Ring.lean `Piece.tiledL`, linear in the pieces, through a loop's `@[irreducible]` trip theorem too), so they cover it. -/
theorem cover0_A_3 (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : cond0_0 i) (hc1 : ¬cond0_1 i)
    (x0 : Vec F S3x16 .f32) (x1 : Vec F S320x2048 .bf16) (y : S16x128.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S16x128.size (by sl_kernel_rfl) y

/-- What case A leaves in output 3's staging buffer: its pieces read back over junk. -/
def out0_A_3 (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : cond0_0 i) (hc1 : ¬cond0_1 i)
    (x0 : Vec F S3x16 .f32) (x1 : Vec F S320x2048 .bf16) : Vec F S16x128 .bf16 :=
  VO0_3.read (Elt F) (VO0_3.writes (Elt F) VO0_3.junk (kernelRun0_A c i arg1 harg1 arg2 harg2 arg3 harg3 arg4 harg4 hc0 hc1 x0 x1).2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 9: 9 of 10), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : ¬cond0_0 i) (hc1 : cond0_1 i)
    (x0 : Vec F S3x16 .f32) (x1 : Vec F S320x2048 .bf16) (xo3 : Vec F S16x128 .bf16) :
    Σ' (L2 : List (View.Piece (Elt F) S320x2048 .fp8e4m3)), { L3 : List (View.Piece (Elt F) S16x128 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_quant_w i arg1 harg1 arg2 harg2 arg3 harg3 arg4 harg4) K } := by
  refine ⟨?_, ?_, fun E K => ?run⟩
  case run =>
    simp only [cc0_quant_w_eq_skeleton]; unfold cc0_quant_w_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case B's pieces for output 2 tile its block (1 store of `S320x2048`, checked by the kernel's evaluation: Lib/Ring.lean `Piece.tiledL`, linear in the pieces, through a loop's `@[irreducible]` trip theorem too), so they cover it. -/
theorem cover0_B_2 (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : ¬cond0_0 i) (hc1 : cond0_1 i)
    (x0 : Vec F S3x16 .f32) (x1 : Vec F S320x2048 .bf16) (xo3 : Vec F S16x128 .bf16) (y : S320x2048.Idx) :
    ∃ pc ∈ (kernelRun0_B c i arg1 harg1 arg2 harg2 arg3 harg3 arg4 harg4 hc0 hc1 x0 x1 xo3).1, y ∈ pc.1.set :=
  View.cover_of_tiledL (kernelRun0_B c i arg1 harg1 arg2 harg2 arg3 harg3 arg4 harg4 hc0 hc1 x0 x1 xo3).1 S320x2048.size (by sl_kernel_rfl) y

/-- What case B leaves in output 2's staging buffer: its pieces read back over junk. -/
def out0_B_2 (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : ¬cond0_0 i) (hc1 : cond0_1 i)
    (x0 : Vec F S3x16 .f32) (x1 : Vec F S320x2048 .bf16) (xo3 : Vec F S16x128 .bf16) : Vec F S320x2048 .fp8e4m3 :=
  VO0_2.read (Elt F) (VO0_2.writes (Elt F) VO0_2.junk (kernelRun0_B c i arg1 harg1 arg2 harg2 arg3 harg3 arg4 harg4 hc0 hc1 x0 x1 xo3).1)

/-- Case B's pieces for output 3 tile its block (1 store of `S16x128`, checked by the kernel's evaluation: Lib/Ring.lean `Piece.tiledL`, linear in the pieces, through a loop's `@[irreducible]` trip theorem too), so they cover it. -/
theorem cover0_B_3 (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : ¬cond0_0 i) (hc1 : cond0_1 i)
    (x0 : Vec F S3x16 .f32) (x1 : Vec F S320x2048 .bf16) (xo3 : Vec F S16x128 .bf16) (y : S16x128.Idx) :
    ∃ pc ∈ (kernelRun0_B c i arg1 harg1 arg2 harg2 arg3 harg3 arg4 harg4 hc0 hc1 x0 x1 xo3).2.1, y ∈ pc.1.set :=
  View.cover_of_tiledL (kernelRun0_B c i arg1 harg1 arg2 harg2 arg3 harg3 arg4 harg4 hc0 hc1 x0 x1 xo3).2.1 S16x128.size (by sl_kernel_rfl) y

/-- What case B leaves in output 3's staging buffer: its pieces read back over junk. -/
def out0_B_3 (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : ¬cond0_0 i) (hc1 : cond0_1 i)
    (x0 : Vec F S3x16 .f32) (x1 : Vec F S320x2048 .bf16) (xo3 : Vec F S16x128 .bf16) : Vec F S16x128 .bf16 :=
  VO0_3.read (Elt F) (VO0_3.writes (Elt F) VO0_3.junk (kernelRun0_B c i arg1 harg1 arg2 harg2 arg3 harg3 arg4 harg4 hc0 hc1 x0 x1 xo3).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S320x2048 .fp8e4m3 × Vec F S16x128 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 10 = 0 then
      if h1 : 1 ≤ (n + 1) then
        False.elim (by have hN : n + 1 < 10 := lt_of_lt_of_eq hn (show cfg0.N = 10 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : 1 ≤ (n + 1) then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        False.elim (by have hN : n + 1 < 10 := lt_of_lt_of_eq hn (show cfg0.N = 10 from N_0); omega)

/-- `outsAt0` at a point of case A: that case's contents. -/
theorem outsAt0_A (c : Dev nD) (t : Fin cfg0.N) (h0 : t.val % 10 = 0) (h1 : ¬1 ≤ t.val) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 10 = 0) (h1 : 1 ≤ t.val) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t) (outsAt0 V c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Output 3's contents CARRY through the points that leave it idle: at such a point, its buffer not fresh, the proof data's
    `after` is the point before's (the case there stores nothing into the window and its term says so; a case that stores
    into it is not idle there by `liveAt0_3_κ`) — the hypothesis of Lib/Pipeline/TableIdle.lean `Dat.before_out_traj`. -/
theorem hcarry0_3 (c : Dev nD) : ∀ (t : Fin cfg0.N) (_ : t.val ≠ 0), cfg0.idle 3 (grid0.coords t) = true → cfg0.fresh 3 t.val = false →
    (dat0 V c).after 3 t = (dat0 V c).after 3 ⟨t.val - 1, by omega⟩ := by
  intro t _ hi _
  have hN : t.val < 10 := lt_of_lt_of_eq t.isLt (show cfg0.N = 10 from N_0)
  rw [after0_3, after0_3]
  by_cases h0 : t.val % 10 = 0
  · by_cases h1 : 1 ≤ t.val
    · exfalso; omega
    · rw [liveAt0_3_A t ((hcond0_0 t).mpr h0) (fun h => h1 ((hcond0_1 t).mp h))] at hi
      exact absurd hi Bool.false_ne_true
  · by_cases h1 : 1 ≤ t.val
    · rw [liveAt0_3_B t (fun h => h0 ((hcond0_0 t).mp h)) ((hcond0_1 t).mpr h1)] at hi
      exact absurd hi Bool.false_ne_true
    · exfalso; omega
/-- At a point of case B output 3's current staging buffer holds what the point before left: the buffer is not fresh
    there (`notFresh0_3_B`: stored into since the region's entry or the last write-back, carried through the points that
    leave it idle by `hcarry0_3`; Lib/Pipeline/TableIdle.lean `Dat.before_out_traj`). -/
theorem before0_3_B (c : Dev nD) (t : Fin cfg0.N) (h0 : ¬t.val % 10 = 0) (h1 : 1 ≤ t.val) (d) :
    (dat0 V c).before 3 t d = (outsAt0 V c (t.val - 1) (Nat.lt_of_le_of_lt (Nat.sub_le _ _) t.isLt)).2 := by
  rw [Dat.before_out_traj _ 3 rfl (fun _ _ => rfl) (hcarry0_3 V c) t.val t rfl d,
    if_neg (by rw [notFresh0_3_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  have hN : t.val < 10 := lt_of_lt_of_eq t.isLt (show cfg0.N = 10 from N_0)
  by_cases h0 : t.val % 10 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_A t ((hcond0_0 t).mpr h0) (fun h => h1 ((hcond0_1 t).mp h))], after0_3]
      rw [outsAt0_A V c t h0 h1]
      unfold out0_A_2 out0_A_3; (try dsimp only)
      iintro ⟨HΦ, Ho, ⟨%d0, H0⟩, ⟨%d1, H1⟩, ⟨%d2, H2⟩, ⟨%d3, H3⟩⟩
      iapply ((kernelRun0_A c (grid0.coords t) _ _ _ _ _ _ _ _ ((hcond0_0 t).mpr h0) (fun h => h1 ((hcond0_1 t).mp h)) (iblk0 V c 0 t) (iblk0 V c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _)
      unfold owns; iexists _; isplitr
      swap; · iexact H3
      ipureintro; exact View.read_writes_of_cover _ _ _ _ _ (cover0_A_3 c _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
      rw [outsAt0_B V c t h0 h1]
      simp only [before0_3_B V c t h0 h1]
      unfold out0_B_2 out0_B_3; (try dsimp only)
      iintro ⟨HΦ, Ho, ⟨%d0, H0⟩, ⟨%d1, H1⟩, ⟨%d2, H2⟩, ⟨%d3, H3⟩⟩
      iapply ((kernelRun0_B c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _)
      unfold owns; iexists _; isplitr
      swap; · iexact H3
      ipureintro; exact View.read_writes_of_cover _ _ _ _ _ (cover0_B_3 c _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Frame.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-! The token pass (second kernel call) runs from any contents `V` of the buffers, and what it leaves in each output window. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_tokens` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 24 = 0 :=
  (fun t => by
    have ht : t.val < 24 := Nat.lt_of_lt_of_eq t.isLt N_1
    have e0 : (grid1.coords t 0).val = t.val / 1 % 24 := Pipeline.Grid.coords_val t 0 (by decide) rfl
    simp only [cond1_0, k1_cond1, e0]
    word_cmp
   : ∀ t : Fin grid1.N, cond1_0 (grid1.coords t) ↔ t.val % 24 = 0)

/-- The condition of the body's `scf.if` 1 (`k1_h2`), from the grid coordinates (the skeleton's scalar
    chain substituted). -/
abbrev cond1_1 (i : grid1.Coords) : Prop := k1_cond2 i = 1#1
/-- It holds at the points from point 1 on — by arithmetic of the point. -/
theorem hcond1_1 : ∀ t : Fin cfg1.N, cond1_1 (grid1.coords t) ↔ 1 ≤ t.val :=
  (fun t => by
    have ht : t.val < 24 := Nat.lt_of_lt_of_eq t.isLt N_1
    have e0 : (grid1.coords t 0).val = t.val / 1 % 24 := Pipeline.Grid.coords_val t 0 (by decide) rfl
    simp only [cond1_1, k1_cond2, e0]
    word_cmp
   : ∀ t : Fin grid1.N, cond1_1 (grid1.coords t) ↔ 1 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an output stored at every point, under no condition). -/
theorem liveAt1_4 : ∀ t : Fin cfg1.N, cfg1.idle 4 (grid1.coords t) = false := fun _ => rfl
/-- Window 5 is never idle (an output stored at every point, under no condition). -/
theorem liveAt1_5 : ∀ t : Fin cfg1.N, cfg1.idle 5 (grid1.coords t) = false := fun _ => rfl
/-- Window 6 is never idle (an output stored at every point, under no condition). -/
theorem liveAt1_6 : ∀ t : Fin cfg1.N, cfg1.idle 6 (grid1.coords t) = false := fun _ => rfl
/-- Window 7 is never idle (an output stored at every point, under no condition). -/
theorem liveAt1_7 : ∀ t : Fin cfg1.N, cfg1.idle 7 (grid1.coords t) = false := fun _ => rfl
/-- Whether output 8's buffer is FRESH at each position `1 ‥ N` — holds nothing the body stored since the region's entry or the
    last write-back (written back at the point before, or idle there and fresh before it) —, as a bitmask computed ahead, bit `n` for position `n + 1`; position 0 is fresh. `freshTab1_8_step` checks it against the configuration's own
    step point by point and Lib/Pipeline/TableIdle.lean `Cfg.fresh_tab` makes it `Cfg.fresh` (`fresh1_8_eq`). -/
def freshTab1_8 : ℕ → Bool
  | 0 => true
  | n + 1 => (0x800000 : ℕ).testBit n
theorem freshTab1_8_step : ∀ t : Fin cfg1.N,
    freshTab1_8 (t.val + 1) = ((cfg1.win 8).flush t || (cfg1.idle 8 (cfg1.grid.coords t) && freshTab1_8 t.val)) := by decide +kernel
theorem fresh1_8_eq (t : Fin cfg1.N) : cfg1.fresh 8 t.val = freshTab1_8 t.val :=
  Pipeline.Cfg.fresh_tab cfg1 8 freshTab1_8 rfl freshTab1_8_step t.val (Nat.le_of_lt t.isLt)
/-- At the points of case A the printed configuration (`Cfg.idle`) calls output 8 live: the case stores into it. -/
theorem liveAt1_8_A : ∀ t : Fin cfg1.N, cond1_0 (grid1.coords t) → ¬cond1_1 (grid1.coords t) → cfg1.idle 8 (grid1.coords t) = false := by decide +kernel
/-- At the points of case B the printed configuration (`Cfg.idle`) calls output 8 live: the case stores into it. -/
theorem liveAt1_8_B : ∀ t : Fin cfg1.N, ¬cond1_0 (grid1.coords t) → cond1_1 (grid1.coords t) → cfg1.idle 8 (grid1.coords t) = false := by decide +kernel
/-- At the points of case B, which keeps output 8's prior contents (reads it before covering, or covers it in part), the
    window's buffer is not FRESH: something was stored into it since the region's entry or its last write-back, idle points
    between or not (Lib/Pipeline/TableIdle.lean `Cfg.fresh`, by the table `freshTab1_8`). -/
theorem notFresh1_8_B : ∀ t : Fin cfg1.N, ¬cond1_0 (grid1.coords t) → cond1_1 (grid1.coords t) → cfg1.fresh 8 t.val = false := by
  intro t; rw [fresh1_8_eq t]; revert t; decide +kernel
/-- Whether output 9's buffer is FRESH at each position `1 ‥ N` — holds nothing the body stored since the region's entry or the
    last write-back (written back at the point before, or idle there and fresh before it) —, as a bitmask computed ahead, bit `n` for position `n + 1`; position 0 is fresh. `freshTab1_9_step` checks it against the configuration's own
    step point by point and Lib/Pipeline/TableIdle.lean `Cfg.fresh_tab` makes it `Cfg.fresh` (`fresh1_9_eq`). -/
def freshTab1_9 : ℕ → Bool
  | 0 => true
  | n + 1 => (0x800000 : ℕ).testBit n
theorem freshTab1_9_step : ∀ t : Fin cfg1.N,
    freshTab1_9 (t.val + 1) = ((cfg1.win 9).flush t || (cfg1.idle 9 (cfg1.grid.coords t) && freshTab1_9 t.val)) := by decide +kernel
theorem fresh1_9_eq (t : Fin cfg1.N) : cfg1.fresh 9 t.val = freshTab1_9 t.val :=
  Pipeline.Cfg.fresh_tab cfg1 9 freshTab1_9 rfl freshTab1_9_step t.val (Nat.le_of_lt t.isLt)
/-- At the points of case A the printed configuration (`Cfg.idle`) calls output 9 live: the case stores into it. -/
theorem liveAt1_9_A : ∀ t : Fin cfg1.N, cond1_0 (grid1.coords t) → ¬cond1_1 (grid1.coords t) → cfg1.idle 9 (grid1.coords t) = false := by decide +kernel
/-- At the points of case B the printed configuration (`Cfg.idle`) calls output 9 live: the case stores into it. -/
theorem liveAt1_9_B : ∀ t : Fin cfg1.N, ¬cond1_0 (grid1.coords t) → cond1_1 (grid1.coords t) → cfg1.idle 9 (grid1.coords t) = false := by decide +kernel
/-- At the points of case B, which keeps output 9's prior contents (reads it before covering, or covers it in part), the
    window's buffer is not FRESH: something was stored into it since the region's entry or its last write-back, idle points
    between or not (Lib/Pipeline/TableIdle.lean `Cfg.fresh`, by the table `freshTab1_9`). -/
theorem notFresh1_9_B : ∀ t : Fin cfg1.N, ¬cond1_0 (grid1.coords t) → cond1_1 (grid1.coords t) → cfg1.fresh 9 t.val = false := by
  intro t; rw [fresh1_9_eq t]; revert t; decide +kernel

/-! ## The kernel body on any staging memrefs: a subtype the run finds -/

/-- One staging buffer of output window 4, through which its contents are stated (`View.read_writes_of_cover`: the
    choice does not matter). -/
abbrev VO1_4 : View sig .tc .vmem S256x2048 .bf16 := (Memref.whole cc1_stg4_0 : Memref sig .tc .vmem S256x2048 .bf16).view
/-- One staging buffer of output window 5, through which its contents are stated (`View.read_writes_of_cover`: the
    choice does not matter). -/
abbrev VO1_5 : View sig .tc .vmem S256x3200 .bf16 := (Memref.whole cc1_stg5_0 : Memref sig .tc .vmem S256x3200 .bf16).view
/-- One staging buffer of output window 6, through which its contents are stated (`View.read_writes_of_cover`: the
    choice does not matter). -/
abbrev VO1_6 : View sig .tc .vmem S256x3200 .fp8e4m3 := (Memref.whole cc1_stg6_0 : Memref sig .tc .vmem S256x3200 .fp8e4m3).view
/-- One staging buffer of output window 7, through which its contents are stated (`View.read_writes_of_cover`: the
    choice does not matter). -/
abbrev VO1_7 : View sig .tc .vmem S256x2048 .fp8e5m2 := (Memref.whole cc1_stg7_0 : Memref sig .tc .vmem S256x2048 .fp8e5m2).view
/-- One staging buffer of output window 8, through which its contents are stated (`View.read_writes_of_cover`: the
    choice does not matter). -/
abbrev VO1_8 : View sig .tc .vmem S16x128 .bf16 := (Memref.whole cc1_stg8_0 : Memref sig .tc .vmem S16x128 .bf16).view
/-- One staging buffer of output window 9, through which its contents are stated (`View.read_writes_of_cover`: the
    choice does not matter). -/
abbrev VO1_9 : View sig .tc .vmem S16x128 .bf16 := (Memref.whole cc1_stg9_0 : Memref sig .tc .vmem S16x128 .bf16).view
/-- Each window's current staging memref at point `t`, spelled as the pipeline passes it (`bodyAt1`), and its wholeness. -/
abbrev ms1_0 (t : Fin cfg1.N) : Memref sig .tc .smem S3x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x3200 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3200x2048 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x2048 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x3200 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x3200 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x2048 .fp8e5m2 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S16x128 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S16x128 .bf16 := win1_9.stage (cfg1.slots t 9)
abbrev hs1_9 (t : Fin cfg1.N) : (ms1_9 t).IsWhole := hstage1_9 ((cfg1.slots t 9).cast nbuf1_9)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) :
    Σ' (L4 : List (View.Piece (Elt F) S256x2048 .bf16)), Σ' (L5 : List (View.Piece (Elt F) S256x3200 .bf16)), Σ' (L6 : List (View.Piece (Elt F) S256x3200 .fp8e4m3)), Σ' (L7 : List (View.Piece (Elt F) S256x2048 .fp8e5m2)), Σ' (L8 : List (View.Piece (Elt F) S16x128 .bf16)), { L9 : List (View.Piece (Elt F) S16x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1_tokens i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1_tokens_eq_skeleton]; unfold cc1_tokens_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

/-- Case A's pieces for output 4 tile its block (1 store of `S256x2048`, checked by the kernel's evaluation: Lib/Ring.lean `Piece.tiledL`, linear in the pieces, through a loop's `@[irreducible]` trip theorem too), so they cover it. -/
theorem cover1_A_4 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) (y : S256x2048.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).1 S256x2048.size (by sl_kernel_rfl) y

/-- What case A leaves in output 4's staging buffer: its pieces read back over junk. -/
def out1_A_4 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) : Vec F S256x2048 .bf16 :=
  VO1_4.read (Elt F) (VO1_4.writes (Elt F) VO1_4.junk (kernelRun1_A c i arg1 harg1 arg2 harg2 arg3 harg3 arg4 harg4 arg5 harg5 arg6 harg6 arg7 harg7 arg8 harg8 arg9 harg9 arg10 harg10 hc0 hc1 x0 x1 x2 x3).1)

/-- Case A's pieces for output 5 tile its block (1 store of `S256x3200`, checked by the kernel's evaluation: Lib/Ring.lean `Piece.tiledL`, linear in the pieces, through a loop's `@[irreducible]` trip theorem too), so they cover it. -/
theorem cover1_A_5 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) (y : S256x3200.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.1 S256x3200.size (by sl_kernel_rfl) y

/-- What case A leaves in output 5's staging buffer: its pieces read back over junk. -/
def out1_A_5 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) : Vec F S256x3200 .bf16 :=
  VO1_5.read (Elt F) (VO1_5.writes (Elt F) VO1_5.junk (kernelRun1_A c i arg1 harg1 arg2 harg2 arg3 harg3 arg4 harg4 arg5 harg5 arg6 harg6 arg7 harg7 arg8 harg8 arg9 harg9 arg10 harg10 hc0 hc1 x0 x1 x2 x3).2.1)

/-- Case A's pieces for output 6 tile its block (1 store of `S256x3200`, checked by the kernel's evaluation: Lib/Ring.lean `Piece.tiledL`, linear in the pieces, through a loop's `@[irreducible]` trip theorem too), so they cover it. -/
theorem cover1_A_6 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) (y : S256x3200.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.2.1 S256x3200.size (by sl_kernel_rfl) y

/-- What case A leaves in output 6's staging buffer: its pieces read back over junk. -/
def out1_A_6 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) : Vec F S256x3200 .fp8e4m3 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 hc0 hc1 x0 x1 x2 x3).2.2.1)

/-- Case A's pieces for output 7 tile its block (1 store of `S256x2048`, checked by the kernel's evaluation: Lib/Ring.lean `Piece.tiledL`, linear in the pieces, through a loop's `@[irreducible]` trip theorem too), so they cover it. -/
theorem cover1_A_7 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) (y : S256x2048.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.2.2.1 S256x2048.size (by sl_kernel_rfl) y

/-- What case A leaves in output 7's staging buffer: its pieces read back over junk. -/
def out1_A_7 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) : Vec F S256x2048 .fp8e5m2 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 hc0 hc1 x0 x1 x2 x3).2.2.2.1)

/-- Case A's pieces for output 8 tile its block (1 store of `S16x128`, checked by the kernel's evaluation: Lib/Ring.lean `Piece.tiledL`, linear in the pieces, through a loop's `@[irreducible]` trip theorem too), so they cover it. -/
theorem cover1_A_8 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) (y : S16x128.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.2.2.2.1 S16x128.size (by sl_kernel_rfl) y

/-- What case A leaves in output 8's staging buffer: its pieces read back over junk. -/
def out1_A_8 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) : Vec F S16x128 .bf16 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 hc0 hc1 x0 x1 x2 x3).2.2.2.2.1)

/-- Case A's pieces for output 9 tile its block (1 store of `S16x128`, checked by the kernel's evaluation: Lib/Ring.lean `Piece.tiledL`, linear in the pieces, through a loop's `@[irreducible]` trip theorem too), so they cover it. -/
theorem cover1_A_9 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) (y : S16x128.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.2.2.2.2.1 S16x128.size (by sl_kernel_rfl) y

/-- What case A leaves in output 9's staging buffer: its pieces read back over junk. -/
def out1_A_9 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec F S3x16 .f32) (x1 : Vec F S256x3200 .bf16) (x2 : Vec F S256x2048 .bf16) (x3 : Vec F S3200x2048 .fp8e4m3) : Vec F S16x128 .bf16 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 hc0 hc1 x0 x1 x2 x3).2.2.2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 23: 23 of 24), WITH the
    proof that on whole staging memrefs — the inputs' at their contents, the outputs it reads before covering (8, 9) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) :
    Σ' (L4 : List (View.Piece (Elt F) S256x2048 .bf16)), Σ' (L5 : List (View.Piece (Elt F) S256x3200 .bf16)), Σ' (L6 : List (View.Piece (Elt F) S256x3200 .fp8e4m3)), Σ' (L7 : List (View.Piece (Elt F) S256x2048 .fp8e5m2)), Σ' (L8 : List (View.Piece (Elt F) S16x128 .bf16)), { L9 : List (View.Piece (Elt F) S16x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1_tokens i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1_tokens_eq_skeleton]; unfold cc1_tokens_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

/-- Case B's pieces for output 4 tile its block (1 store of `S256x2048`, checked by the kernel's evaluation: Lib/Ring.lean `Piece.tiledL`, linear in the pieces, through a loop's `@[irreducible]` trip theorem too), so they cover it. -/
theorem cover1_B_4 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) (y : S256x2048.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).1 S256x2048.size (by sl_kernel_rfl) y

/-- What case B leaves in output 4's staging buffer: its pieces read back over junk. -/
def out1_B_4 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) : Vec F S256x2048 .bf16 :=
  VO1_4.read (Elt F) (VO1_4.writes (Elt F) VO1_4.junk (kernelRun1_B c i arg1 harg1 arg2 harg2 arg3 harg3 arg4 harg4 arg5 harg5 arg6 harg6 arg7 harg7 arg8 harg8 arg9 harg9 arg10 harg10 hc0 hc1 x0 x1 x2 x3 xo8 xo9).1)

/-- Case B's pieces for output 5 tile its block (1 store of `S256x3200`, checked by the kernel's evaluation: Lib/Ring.lean `Piece.tiledL`, linear in the pieces, through a loop's `@[irreducible]` trip theorem too), so they cover it. -/
theorem cover1_B_5 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) (y : S256x3200.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.1 S256x3200.size (by sl_kernel_rfl) y

/-- What case B leaves in output 5's staging buffer: its pieces read back over junk. -/
def out1_B_5 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) : Vec F S256x3200 .bf16 :=
  VO1_5.read (Elt F) (VO1_5.writes (Elt F) VO1_5.junk (kernelRun1_B c i arg1 harg1 arg2 harg2 arg3 harg3 arg4 harg4 arg5 harg5 arg6 harg6 arg7 harg7 arg8 harg8 arg9 harg9 arg10 harg10 hc0 hc1 x0 x1 x2 x3 xo8 xo9).2.1)

/-- Case B's pieces for output 6 tile its block (1 store of `S256x3200`, checked by the kernel's evaluation: Lib/Ring.lean `Piece.tiledL`, linear in the pieces, through a loop's `@[irreducible]` trip theorem too), so they cover it. -/
theorem cover1_B_6 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) (y : S256x3200.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.2.1 S256x3200.size (by sl_kernel_rfl) y

/-- What case B leaves in output 6's staging buffer: its pieces read back over junk. -/
def out1_B_6 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) : Vec F S256x3200 .fp8e4m3 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 hc0 hc1 x0 x1 x2 x3 xo8 xo9).2.2.1)

/-- Case B's pieces for output 7 tile its block (1 store of `S256x2048`, checked by the kernel's evaluation: Lib/Ring.lean `Piece.tiledL`, linear in the pieces, through a loop's `@[irreducible]` trip theorem too), so they cover it. -/
theorem cover1_B_7 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) (y : S256x2048.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.1 S256x2048.size (by sl_kernel_rfl) y

/-- What case B leaves in output 7's staging buffer: its pieces read back over junk. -/
def out1_B_7 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) : Vec F S256x2048 .fp8e5m2 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.1)

/-- Case B's pieces for output 8 tile its block (1 store of `S16x128`, checked by the kernel's evaluation: Lib/Ring.lean `Piece.tiledL`, linear in the pieces, through a loop's `@[irreducible]` trip theorem too), so they cover it. -/
theorem cover1_B_8 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) (y : S16x128.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.1 S16x128.size (by sl_kernel_rfl) y

/-- What case B leaves in output 8's staging buffer: its pieces read back over junk. -/
def out1_B_8 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) : Vec F S16x128 .bf16 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.1)

/-- Case B's pieces for output 9 tile its block (1 store of `S16x128`, checked by the kernel's evaluation: Lib/Ring.lean `Piece.tiledL`, linear in the pieces, through a loop's `@[irreducible]` trip theorem too), so they cover it. -/
theorem cover1_B_9 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) (y : S16x128.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.2.1 S16x128.size (by sl_kernel_rfl) y

/-- What case B leaves in output 9's staging buffer: its pieces read back over junk. -/
def out1_B_9 (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec F S3x16 .f32) (x1 : Vec F S256x3200 .bf16) (x2 : Vec F S256x2048 .bf16) (x3 : Vec F S3200x2048 .fp8e4m3) (xo8 : Vec F S16x128 .bf16) (xo9 : Vec F S16x128 .bf16) : Vec F S16x128 .bf16 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S256x2048 .bf16 × Vec F S256x3200 .bf16 × Vec F S256x3200 .fp8e4m3 × Vec F S256x2048 .fp8e5m2 × Vec F S16x128 .bf16 × Vec F S16x128 .bf16
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 24 = 0 then
      if h1 : 1 ≤ (n + 1) then
        False.elim (by have hN : n + 1 < 24 := lt_of_lt_of_eq hn (show cfg1.N = 24 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : 1 ≤ (n + 1) then
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2)
      else
        False.elim (by have hN : n + 1 < 24 := lt_of_lt_of_eq hn (show cfg1.N = 24 from N_1); omega)

/-- `outsAt1` at a point of case A: that case's contents. -/
theorem outsAt1_A (c : Dev nD) (t : Fin cfg1.N) (h0 : t.val % 24 = 0) (h1 : ¬1 ≤ t.val) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 24 = 0) (h1 : 1 ≤ t.val) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
    | ⟨8, _⟩ => (outsAt1 V c t.val t.isLt).2.2.2.2.1
    | ⟨9, _⟩ => (outsAt1 V c t.val t.isLt).2.2.2.2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2.1 := by dsimp only [dat1]
theorem after1_8 (c : Dev nD) (t : Fin cfg1.N) : (dat1 V c).after 8 t = (outsAt1 V c t.val t.isLt).2.2.2.2.1 := by dsimp only [dat1]
theorem after1_9 (c : Dev nD) (t : Fin cfg1.N) : (dat1 V c).after 9 t = (outsAt1 V c t.val t.isLt).2.2.2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Output 8's contents CARRY through the points that leave it idle: at such a point, its buffer not fresh, the proof data's
    `after` is the point before's (the case there stores nothing into the window and its term says so; a case that stores
    into it is not idle there by `liveAt1_8_κ`) — the hypothesis of Lib/Pipeline/TableIdle.lean `Dat.before_out_traj`. -/
theorem hcarry1_8 (c : Dev nD) : ∀ (t : Fin cfg1.N) (_ : t.val ≠ 0), cfg1.idle 8 (grid1.coords t) = true → cfg1.fresh 8 t.val = false →
    (dat1 V c).after 8 t = (dat1 V c).after 8 ⟨t.val - 1, by omega⟩ := by
  intro t _ hi _
  have hN : t.val < 24 := lt_of_lt_of_eq t.isLt (show cfg1.N = 24 from N_1)
  rw [after1_8, after1_8]
  by_cases h0 : t.val % 24 = 0
  · by_cases h1 : 1 ≤ t.val
    · exfalso; omega
    · rw [liveAt1_8_A t ((hcond1_0 t).mpr h0) (fun h => h1 ((hcond1_1 t).mp h))] at hi
      exact absurd hi Bool.false_ne_true
  · by_cases h1 : 1 ≤ t.val
    · rw [liveAt1_8_B t (fun h => h0 ((hcond1_0 t).mp h)) ((hcond1_1 t).mpr h1)] at hi
      exact absurd hi Bool.false_ne_true
    · exfalso; omega

/-- Output 9's contents CARRY through the points that leave it idle: at such a point, its buffer not fresh, the proof data's
    `after` is the point before's (the case there stores nothing into the window and its term says so; a case that stores
    into it is not idle there by `liveAt1_9_κ`) — the hypothesis of Lib/Pipeline/TableIdle.lean `Dat.before_out_traj`. -/
theorem hcarry1_9 (c : Dev nD) : ∀ (t : Fin cfg1.N) (_ : t.val ≠ 0), cfg1.idle 9 (grid1.coords t) = true → cfg1.fresh 9 t.val = false →
    (dat1 V c).after 9 t = (dat1 V c).after 9 ⟨t.val - 1, by omega⟩ := by
  intro t _ hi _
  have hN : t.val < 24 := lt_of_lt_of_eq t.isLt (show cfg1.N = 24 from N_1)
  rw [after1_9, after1_9]
  by_cases h0 : t.val % 24 = 0
  · by_cases h1 : 1 ≤ t.val
    · exfalso; omega
    · rw [liveAt1_9_A t ((hcond1_0 t).mpr h0) (fun h => h1 ((hcond1_1 t).mp h))] at hi
      exact absurd hi Bool.false_ne_true
  · by_cases h1 : 1 ≤ t.val
    · rw [liveAt1_9_B t (fun h => h0 ((hcond1_0 t).mp h)) ((hcond1_1 t).mpr h1)] at hi
      exact absurd hi Bool.false_ne_true
    · exfalso; omega
/-- At a point of case B output 8's current staging buffer holds what the point before left: the buffer is not fresh
    there (`notFresh1_8_B`: stored into since the region's entry or the last write-back, carried through the points that
    leave it idle by `hcarry1_8`; Lib/Pipeline/TableIdle.lean `Dat.before_out_traj`). -/
theorem before1_8_B (c : Dev nD) (t : Fin cfg1.N) (h0 : ¬t.val % 24 = 0) (h1 : 1 ≤ t.val) (d) :
    (dat1 V c).before 8 t d = (outsAt1 V c (t.val - 1) (Nat.lt_of_le_of_lt (Nat.sub_le _ _) t.isLt)).2.2.2.2.1 := by
  rw [Dat.before_out_traj _ 8 rfl (fun _ _ => rfl) (hcarry1_8 V c) t.val t rfl d,
    if_neg (by rw [notFresh1_8_B t (fun h => h0 ((hcond1_0 t).mp h)) ((hcond1_1 t).mpr h1)]; exact Bool.false_ne_true)]
  dsimp only [dat1]
/-- At a point of case B output 9's current staging buffer holds what the point before left: the buffer is not fresh
    there (`notFresh1_9_B`: stored into since the region's entry or the last write-back, carried through the points that
    leave it idle by `hcarry1_9`; Lib/Pipeline/TableIdle.lean `Dat.before_out_traj`). -/
theorem before1_9_B (c : Dev nD) (t : Fin cfg1.N) (h0 : ¬t.val % 24 = 0) (h1 : 1 ≤ t.val) (d) :
    (dat1 V c).before 9 t d = (outsAt1 V c (t.val - 1) (Nat.lt_of_le_of_lt (Nat.sub_le _ _) t.isLt)).2.2.2.2.2 := by
  rw [Dat.before_out_traj _ 9 rfl (fun _ _ => rfl) (hcarry1_9 V c) t.val t rfl d,
    if_neg (by rw [notFresh1_9_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 1600000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  have hN : t.val < 24 := lt_of_lt_of_eq t.isLt (show cfg1.N = 24 from N_1)
  by_cases h0 : t.val % 24 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8_A t ((hcond1_0 t).mpr h0) (fun h => h1 ((hcond1_1 t).mp h))], after1_8]
      rw [show (dat1 V c).leavesExact 9 t = owns (c : Thread nD τ) (ms1_9 t) fullShare ((dat1 V c).after 9 t) from by
      unfold Dat.leavesExact; rw [liveAt1_9_A t ((hcond1_0 t).mpr h0) (fun h => h1 ((hcond1_1 t).mp h))], after1_9]
      rw [outsAt1_A V c t h0 h1]
      unfold out1_A_4 out1_A_5 out1_A_6 out1_A_7 out1_A_8 out1_A_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      iintro ⟨H0, H1, H2, H3, ⟨%e4, H4⟩, ⟨%e5, H5⟩, ⟨%e6, H6⟩, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _)
      unfold owns; iexists _; isplitr
      swap; · iexact H9
      ipureintro; exact View.read_writes_of_cover _ _ _ _ _ (cover1_A_9 c _ _ _ _ _ _ _ _ _ _ _ _ _ _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8_B t (fun h => h0 ((hcond1_0 t).mp h)) ((hcond1_1 t).mpr h1)], after1_8]
      rw [show (dat1 V c).leavesExact 9 t = owns (c : Thread nD τ) (ms1_9 t) fullShare ((dat1 V c).after 9 t) from by
      unfold Dat.leavesExact; rw [liveAt1_9_B t (fun h => h0 ((hcond1_0 t).mp h)) ((hcond1_1 t).mpr h1)], after1_9]
      rw [outsAt1_B V c t h0 h1]
      simp only [before1_8_B V c t h0 h1, before1_9_B V c t h0 h1]
      unfold out1_B_4 out1_B_5 out1_B_6 out1_B_7 out1_B_8 out1_B_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexact H8
      isplitl [H9]; · iexact H9
      iintro ⟨H0, H1, H2, H3, ⟨%e4, H4⟩, ⟨%e5, H5⟩, ⟨%e6, H6⟩, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_B_7 c _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_B_8 c _ _ _ _ _ _ _ _ _ _ _ _ _ _ _ _ _ _ _ _ _ _ _ _ _ _ _ _ _)
      unfold owns; iexists _; isplitr
      swap; · iexact H9
      ipureintro; exact View.read_writes_of_cover _ _ _ _ _ (cover1_B_9 c _ _ _ _ _ _ _ _ _ _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Frame.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-! The weight gradient (third kernel call) runs from any contents `V` of the buffers, and what it leaves in each output window. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_grad_w` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the first point only — by arithmetic of the point. -/
theorem hcond2_0 : ∀ t : Fin cfg2.N, cond2_0 (grid2.coords t) ↔ t.val % 5 = 0 :=
  (fun t => by
    have ht : t.val < 5 := Nat.lt_of_lt_of_eq t.isLt N_2
    have e0 : (grid2.coords t 0).val = t.val / 1 % 5 := Pipeline.Grid.coords_val t 0 (by decide) rfl
    simp only [cond2_0, k2_cond1, e0]
    word_cmp
   : ∀ t : Fin grid2.N, cond2_0 (grid2.coords t) ↔ t.val % 5 = 0)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an input). -/
theorem liveAt2_3 : ∀ t : Fin cfg2.N, cfg2.idle 3 (grid2.coords t) = false := fun _ => rfl
/-- Window 4 is never idle (an input). -/
theorem liveAt2_4 : ∀ t : Fin cfg2.N, cfg2.idle 4 (grid2.coords t) = false := fun _ => rfl
/-- Window 5 is never idle (an input). -/
theorem liveAt2_5 : ∀ t : Fin cfg2.N, cfg2.idle 5 (grid2.coords t) = false := fun _ => rfl
/-- Window 6 is never idle (an input). -/
theorem liveAt2_6 : ∀ t : Fin cfg2.N, cfg2.idle 6 (grid2.coords t) = false := fun _ => rfl
/-- Window 7 is never idle (an input). -/
theorem liveAt2_7 : ∀ t : Fin cfg2.N, cfg2.idle 7 (grid2.coords t) = false := fun _ => rfl
/-- Window 8 is never idle (an output stored at every point, under no condition). -/
theorem liveAt2_8 : ∀ t : Fin cfg2.N, cfg2.idle 8 (grid2.coords t) = false := fun _ => rfl
/-- Whether output 9's buffer is FRESH at each position `1 ‥ N` — holds nothing the body stored since the region's entry or the
    last write-back (written back at the point before, or idle there and fresh before it) —, as a bitmask computed ahead, bit `n` for position `n + 1`; position 0 is fresh. `freshTab2_9_step` checks it against the configuration's own
    step point by point and Lib/Pipeline/TableIdle.lean `Cfg.fresh_tab` makes it `Cfg.fresh` (`fresh2_9_eq`). -/
def freshTab2_9 : ℕ → Bool
  | 0 => true
  | n + 1 => (0x10 : ℕ).testBit n
theorem freshTab2_9_step : ∀ t : Fin cfg2.N,
    freshTab2_9 (t.val + 1) = ((cfg2.win 9).flush t || (cfg2.idle 9 (cfg2.grid.coords t) && freshTab2_9 t.val)) := by decide +kernel
theorem fresh2_9_eq (t : Fin cfg2.N) : cfg2.fresh 9 t.val = freshTab2_9 t.val :=
  Pipeline.Cfg.fresh_tab cfg2 9 freshTab2_9 rfl freshTab2_9_step t.val (Nat.le_of_lt t.isLt)
/-- At the points of case A the printed configuration (`Cfg.idle`) calls output 9 live: the case stores into it. -/
theorem liveAt2_9_A : ∀ t : Fin cfg2.N, cond2_0 (grid2.coords t) → cfg2.idle 9 (grid2.coords t) = false := by decide +kernel
/-- At the points of case B output 9 is idle: the body stores nothing into it there. -/
theorem idleAt2_9_B : ∀ t : Fin cfg2.N, ¬cond2_0 (grid2.coords t) → cfg2.idle 9 (grid2.coords t) = true := by decide +kernel
/-- At the points of case B, which keeps output 9's prior contents (reads it before covering, or covers it in part), the
    window's buffer is not FRESH: something was stored into it since the region's entry or its last write-back, idle points
    between or not (Lib/Pipeline/TableIdle.lean `Cfg.fresh`, by the table `freshTab2_9`). -/
theorem notFresh2_9_B : ∀ t : Fin cfg2.N, ¬cond2_0 (grid2.coords t) → cfg2.fresh 9 t.val = false := by
  intro t; rw [fresh2_9_eq t]; revert t; decide +kernel
/-- Whether output 10's buffer is FRESH at each position `1 ‥ N` — holds nothing the body stored since the region's entry or the
    last write-back (written back at the point before, or idle there and fresh before it) —, as a bitmask computed ahead, bit `n` for position `n + 1`; position 0 is fresh. `freshTab2_10_step` checks it against the configuration's own
    step point by point and Lib/Pipeline/TableIdle.lean `Cfg.fresh_tab` makes it `Cfg.fresh` (`fresh2_10_eq`). -/
def freshTab2_10 : ℕ → Bool
  | 0 => true
  | n + 1 => (0x10 : ℕ).testBit n
theorem freshTab2_10_step : ∀ t : Fin cfg2.N,
    freshTab2_10 (t.val + 1) = ((cfg2.win 10).flush t || (cfg2.idle 10 (cfg2.grid.coords t) && freshTab2_10 t.val)) := by decide +kernel
theorem fresh2_10_eq (t : Fin cfg2.N) : cfg2.fresh 10 t.val = freshTab2_10 t.val :=
  Pipeline.Cfg.fresh_tab cfg2 10 freshTab2_10 rfl freshTab2_10_step t.val (Nat.le_of_lt t.isLt)
/-- At the points of case A the printed configuration (`Cfg.idle`) calls output 10 live: the case stores into it. -/
theorem liveAt2_10_A : ∀ t : Fin cfg2.N, cond2_0 (grid2.coords t) → cfg2.idle 10 (grid2.coords t) = false := by decide +kernel
/-- At the points of case B output 10 is idle: the body stores nothing into it there. -/
theorem idleAt2_10_B : ∀ t : Fin cfg2.N, ¬cond2_0 (grid2.coords t) → cfg2.idle 10 (grid2.coords t) = true := by decide +kernel
/-- At the points of case B, which keeps output 10's prior contents (reads it before covering, or covers it in part), the
    window's buffer is not FRESH: something was stored into it since the region's entry or its last write-back, idle points
    between or not (Lib/Pipeline/TableIdle.lean `Cfg.fresh`, by the table `freshTab2_10`). -/
theorem notFresh2_10_B : ∀ t : Fin cfg2.N, ¬cond2_0 (grid2.coords t) → cfg2.fresh 10 t.val = false := by
  intro t; rw [fresh2_10_eq t]; revert t; decide +kernel
/-- Whether output 11's buffer is FRESH at each position `1 ‥ N` — holds nothing the body stored since the region's entry or the
    last write-back (written back at the point before, or idle there and fresh before it) —, as a bitmask computed ahead, bit `n` for position `n + 1`; position 0 is fresh. `freshTab2_11_step` checks it against the configuration's own
    step point by point and Lib/Pipeline/TableIdle.lean `Cfg.fresh_tab` makes it `Cfg.fresh` (`fresh2_11_eq`). -/
def freshTab2_11 : ℕ → Bool
  | 0 => true
  | n + 1 => (0x10 : ℕ).testBit n
theorem freshTab2_11_step : ∀ t : Fin cfg2.N,
    freshTab2_11 (t.val + 1) = ((cfg2.win 11).flush t || (cfg2.idle 11 (cfg2.grid.coords t) && freshTab2_11 t.val)) := by decide +kernel
theorem fresh2_11_eq (t : Fin cfg2.N) : cfg2.fresh 11 t.val = freshTab2_11 t.val :=
  Pipeline.Cfg.fresh_tab cfg2 11 freshTab2_11 rfl freshTab2_11_step t.val (Nat.le_of_lt t.isLt)
/-- At the points of case A the printed configuration (`Cfg.idle`) calls output 11 live: the case stores into it. -/
theorem liveAt2_11_A : ∀ t : Fin cfg2.N, cond2_0 (grid2.coords t) → cfg2.idle 11 (grid2.coords t) = false := by decide +kernel
/-- At the points of case B output 11 is idle: the body stores nothing into it there. -/
theorem idleAt2_11_B : ∀ t : Fin cfg2.N, ¬cond2_0 (grid2.coords t) → cfg2.idle 11 (grid2.coords t) = true := by decide +kernel
/-- At the points of case B, which keeps output 11's prior contents (reads it before covering, or covers it in part), the
    window's buffer is not FRESH: something was stored into it since the region's entry or its last write-back, idle points
    between or not (Lib/Pipeline/TableIdle.lean `Cfg.fresh`, by the table `freshTab2_11`). -/
theorem notFresh2_11_B : ∀ t : Fin cfg2.N, ¬cond2_0 (grid2.coords t) → cfg2.fresh 11 t.val = false := by
  intro t; rw [fresh2_11_eq t]; revert t; decide +kernel
/-- Whether output 12's buffer is FRESH at each position `1 ‥ N` — holds nothing the body stored since the region's entry or the
    last write-back (written back at the point before, or idle there and fresh before it) —, as a bitmask computed ahead, bit `n` for position `n + 1`; position 0 is fresh. `freshTab2_12_step` checks it against the configuration's own
    step point by point and Lib/Pipeline/TableIdle.lean `Cfg.fresh_tab` makes it `Cfg.fresh` (`fresh2_12_eq`). -/
def freshTab2_12 : ℕ → Bool
  | 0 => true
  | n + 1 => (0x10 : ℕ).testBit n
theorem freshTab2_12_step : ∀ t : Fin cfg2.N,
    freshTab2_12 (t.val + 1) = ((cfg2.win 12).flush t || (cfg2.idle 12 (cfg2.grid.coords t) && freshTab2_12 t.val)) := by decide +kernel
theorem fresh2_12_eq (t : Fin cfg2.N) : cfg2.fresh 12 t.val = freshTab2_12 t.val :=
  Pipeline.Cfg.fresh_tab cfg2 12 freshTab2_12 rfl freshTab2_12_step t.val (Nat.le_of_lt t.isLt)
/-- At the points of case A the printed configuration (`Cfg.idle`) calls output 12 live: the case stores into it. -/
theorem liveAt2_12_A : ∀ t : Fin cfg2.N, cond2_0 (grid2.coords t) → cfg2.idle 12 (grid2.coords t) = false := by decide +kernel
/-- At the points of case B output 12 is idle: the body stores nothing into it there. -/
theorem idleAt2_12_B : ∀ t : Fin cfg2.N, ¬cond2_0 (grid2.coords t) → cfg2.idle 12 (grid2.coords t) = true := by decide +kernel
/-- At the points of case B, which keeps output 12's prior contents (reads it before covering, or covers it in part), the
    window's buffer is not FRESH: something was stored into it since the region's entry or its last write-back, idle points
    between or not (Lib/Pipeline/TableIdle.lean `Cfg.fresh`, by the table `freshTab2_12`). -/
theorem notFresh2_12_B : ∀ t : Fin cfg2.N, ¬cond2_0 (grid2.coords t) → cfg2.fresh 12 t.val = false := by
  intro t; rw [fresh2_12_eq t]; revert t; decide +kernel

/-! ## The kernel body on any staging memrefs: a subtype the run finds -/

/-- One staging buffer of output window 8, through which its contents are stated (`View.read_writes_of_cover`: the
    choice does not matter). -/
abbrev VO2_8 : View sig .tc .vmem S640x2048 .f32 := (Memref.whole cc2_stg8_0 : Memref sig .tc .vmem S640x2048 .f32).view
/-- One staging buffer of output window 9, through which its contents are stated (`View.read_writes_of_cover`: the
    choice does not matter). -/
abbrev VO2_9 : View sig .tc .smem S1 .f32 := (Memref.whole cc2_stg9_0 : Memref sig .tc .smem S1 .f32).view
/-- One staging buffer of output window 10, through which its contents are stated (`View.read_writes_of_cover`: the
    choice does not matter). -/
abbrev VO2_10 : View sig .tc .smem S1 .f32 := (Memref.whole cc2_stg10_0 : Memref sig .tc .smem S1 .f32).view
/-- One staging buffer of output window 11, through which its contents are stated (`View.read_writes_of_cover`: the
    choice does not matter). -/
abbrev VO2_11 : View sig .tc .smem S1 .f32 := (Memref.whole cc2_stg11_0 : Memref sig .tc .smem S1 .f32).view
/-- One staging buffer of output window 12, through which its contents are stated (`View.read_writes_of_cover`: the
    choice does not matter). -/
abbrev VO2_12 : View sig .tc .vmem S3x16 .f32 := (Memref.whole cc2_stg12_0 : Memref sig .tc .vmem S3x16 .f32).view
/-- Each window's current staging memref at point `t`, spelled as the pipeline passes it (`bodyAt2`), and its wholeness. -/
abbrev ms2_0 (t : Fin cfg2.N) : Memref sig .tc .smem S3x16 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S3x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16x128 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S16x128 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S16x128 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S6144x640 .fp8e4m3 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S6144x2048 .fp8e5m2 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S640x2048 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .smem S1 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .smem S1 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .smem S1 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S3x16 .f32 := win2_12.stage (cfg2.slots t 12)
abbrev hs2_12 (t : Fin cfg2.N) : (ms2_12 t).IsWhole := hstage2_12 ((cfg2.slots t 12).cast nbuf2_12)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) :
    Σ' (L8 : List (View.Piece (Elt F) S640x2048 .f32)), Σ' (L9 : List (View.Piece (Elt F) S1 .f32)), Σ' (L10 : List (View.Piece (Elt F) S1 .f32)), Σ' (L11 : List (View.Piece (Elt F) S1 .f32)), { L12 : List (View.Piece (Elt F) S3x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc2_grad_w i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc2_grad_w_eq_skeleton]; unfold cc2_grad_w_skel
    simp only [k2_part2_eq_skeleton, k2_part3_eq_skeleton, k2_part4_eq_skeleton, k2_part5_eq_skeleton, k2_part6_eq_skeleton, k2_part7_eq_skeleton, k2_part8_eq_skeleton, k2_part9_eq_skeleton, k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    iexists _; iexact H12

/-- Case A's pieces for output 8 tile its block (1 store of `S640x2048`, checked by the kernel's evaluation: Lib/Ring.lean `Piece.tiledL`, linear in the pieces, through a loop's `@[irreducible]` trip theorem too), so they cover it. -/
theorem cover2_A_8 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) (y : S640x2048.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1 S640x2048.size (by sl_kernel_rfl) y

/-- What case A leaves in output 8's staging buffer: its pieces read back over junk. -/
def out2_A_8 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) : Vec F S640x2048 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1)

/-- Case A's pieces for output 9 tile its block (1 store of `S1`, checked by the kernel's evaluation: Lib/Ring.lean `Piece.tiledL`, linear in the pieces, through a loop's `@[irreducible]` trip theorem too), so they cover it. -/
theorem cover2_A_9 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) (y : S1.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1 S1.size (by sl_kernel_rfl) y

/-- What case A leaves in output 9's staging buffer: its pieces read back over junk. -/
def out2_A_9 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) : Vec F S1 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1)

/-- Case A's pieces for output 10 tile its block (1 store of `S1`, checked by the kernel's evaluation: Lib/Ring.lean `Piece.tiledL`, linear in the pieces, through a loop's `@[irreducible]` trip theorem too), so they cover it. -/
theorem cover2_A_10 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) (y : S1.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1 S1.size (by sl_kernel_rfl) y

/-- What case A leaves in output 10's staging buffer: its pieces read back over junk. -/
def out2_A_10 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) : Vec F S1 .f32 :=
  VO2_10.read (Elt F) (VO2_10.writes (Elt F) VO2_10.junk (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1)

/-- Case A's pieces for output 11 tile its block (1 store of `S1`, checked by the kernel's evaluation: Lib/Ring.lean `Piece.tiledL`, linear in the pieces, through a loop's `@[irreducible]` trip theorem too), so they cover it. -/
theorem cover2_A_11 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) (y : S1.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.1 S1.size (by sl_kernel_rfl) y

/-- What case A leaves in output 11's staging buffer: its pieces read back over junk. -/
def out2_A_11 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) : Vec F S1 .f32 :=
  VO2_11.read (Elt F) (VO2_11.writes (Elt F) VO2_11.junk (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.1)

/-- Case A's pieces for output 12 tile its block (1 store of `S3x16`, checked by the kernel's evaluation: Lib/Ring.lean `Piece.tiledL`, linear in the pieces, through a loop's `@[irreducible]` trip theorem too), so they cover it. -/
theorem cover2_A_12 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) (y : S3x16.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.2.1 S3x16.size (by sl_kernel_rfl) y

/-- What case A leaves in output 12's staging buffer: its pieces read back over junk. -/
def out2_A_12 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) : Vec F S3x16 .f32 :=
  VO2_12.read (Elt F) (VO2_12.writes (Elt F) VO2_12.junk (kernelRun2_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.2.1)

-- (the run's proof term is large: the definition's epilogue — `abstractNestedProofs` — walks it past the default budget)
set_option maxHeartbeats 1000000 in
/-- What the body's stores leave in each output's staging memref, as pieces (last first) IN CASE B (`scf.if` 0 not taken: points 1, 2, 3, 4), WITH the
    proof that on whole staging memrefs — the inputs' at their contents, the outputs it reads before covering (9, 10, 11, 12) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : ¬cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) (xo9 : Vec F S1 .f32) (xo10 : Vec F S1 .f32) (xo11 : Vec F S1 .f32) (xo12 : Vec F S3x16 .f32) :
    Σ' (L8 : List (View.Piece (Elt F) S640x2048 .f32)), Σ' (L9 : List (View.Piece (Elt F) S1 .f32)), Σ' (L10 : List (View.Piece (Elt F) S1 .f32)), Σ' (L11 : List (View.Piece (Elt F) S1 .f32)), { L12 : List (View.Piece (Elt F) S3x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9 ∗ owns (c : Thread nD τ) arg11 fullShare xo10 ∗ owns (c : Thread nD τ) arg12 fullShare xo11 ∗ owns (c : Thread nD τ) arg13 fullShare xo12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xo9 ∗ owns (c : Thread nD τ) arg11 fullShare xo10 ∗ owns (c : Thread nD τ) arg12 fullShare xo11 ∗ owns (c : Thread nD τ) arg13 fullShare xo12) -∗ K ⟨⟩))
          ⊢ wp frame (wpE (defs₀ (F := F)) Variants.none c none) E (cc2_grad_w i arg1 harg1 arg2 harg2 arg3 harg3 arg4 harg4 arg5 harg5 arg6 harg6 arg7 harg7 arg8 harg8 arg9 harg9 arg10 harg10 arg11 harg11 arg12 harg12 arg13 harg13) K } := by
  refine ⟨?_, [], [], [], [], fun E K => ?run⟩
  case run =>
    simp only [cc2_grad_w_eq_skeleton]; unfold cc2_grad_w_skel
    simp only [k2_part2_eq_skeleton, k2_part3_eq_skeleton, k2_part4_eq_skeleton, k2_part5_eq_skeleton, k2_part6_eq_skeleton, k2_part7_eq_skeleton, k2_part8_eq_skeleton, k2_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; isplitr; · ipureintro; exact harg13.read_unread _
    iexact H12

/-- Case B's pieces for output 8 tile its block (1 store of `S640x2048`, checked by the kernel's evaluation: Lib/Ring.lean `Piece.tiledL`, linear in the pieces, through a loop's `@[irreducible]` trip theorem too), so they cover it. -/
theorem cover2_B_8 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : ¬cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) (xo9 : Vec F S1 .f32) (xo10 : Vec F S1 .f32) (xo11 : Vec F S1 .f32) (xo12 : Vec F S3x16 .f32) (y : S640x2048.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12).1 S640x2048.size (by sl_kernel_rfl) y

/-- What case B leaves in output 8's staging buffer: its pieces read back over junk. -/
def out2_B_8 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : ¬cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) (xo9 : Vec F S1 .f32) (xo10 : Vec F S1 .f32) (xo11 : Vec F S1 .f32) (xo12 : Vec F S3x16 .f32) : Vec F S640x2048 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12).1)

/-- Case B stores nothing into output 9: its staging buffer holds what the point before left. -/
def out2_B_9 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : ¬cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) (xo9 : Vec F S1 .f32) (xo10 : Vec F S1 .f32) (xo11 : Vec F S1 .f32) (xo12 : Vec F S3x16 .f32) : Vec F S1 .f32 := xo9

/-- Case B stores nothing into output 10: its staging buffer holds what the point before left. -/
def out2_B_10 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : ¬cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) (xo9 : Vec F S1 .f32) (xo10 : Vec F S1 .f32) (xo11 : Vec F S1 .f32) (xo12 : Vec F S3x16 .f32) : Vec F S1 .f32 := xo10

/-- Case B stores nothing into output 11: its staging buffer holds what the point before left. -/
def out2_B_11 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : ¬cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) (xo9 : Vec F S1 .f32) (xo10 : Vec F S1 .f32) (xo11 : Vec F S1 .f32) (xo12 : Vec F S3x16 .f32) : Vec F S1 .f32 := xo11

/-- Case B stores nothing into output 12: its staging buffer holds what the point before left. -/
def out2_B_12 (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : ¬cond2_0 i)
    (x0 : Vec F S3x16 .f32) (x1 : Vec F S1 .i32) (x2 : Vec F S3x16 .f32) (x3 : Vec F S16x128 .bf16) (x4 : Vec F S16x128 .bf16) (x5 : Vec F S16x128 .bf16) (x6 : Vec F S6144x640 .fp8e4m3) (x7 : Vec F S6144x2048 .fp8e5m2) (xo9 : Vec F S1 .f32) (xo10 : Vec F S1 .f32) (xo11 : Vec F S1 .f32) (xo12 : Vec F S3x16 .f32) : Vec F S3x16 .f32 := xo12

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before2_W_κ`); an output it leaves idle whose contents another case keeps stays
    what this leaves at `n - 1`, carried. An assignment of the conditions no point meets is no case (`False.elim`). -/
def outsAt2 (c : Dev nD) : (n : ℕ) → n < cfg2.N → Vec F S640x2048 .f32 × Vec F S1 .f32 × Vec F S1 .f32 × Vec F S1 .f32 × Vec F S3x16 .f32
  | 0, hn => (out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), out2_A_10 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), out2_A_11 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), out2_A_12 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩))
  | n + 1, hn =>
    if h0 : (n + 1) % 5 = 0 then
      (out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), out2_A_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), out2_A_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), out2_A_11 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), out2_A_12 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩))
    else
      (out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2, out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2, out2_B_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2, out2_B_11 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2, out2_B_12 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2)

/-- `outsAt2` at a point of case A: that case's contents. -/
theorem outsAt2_A (c : Dev nD) (t : Fin cfg2.N) (h0 : t.val % 5 = 0) :
    outsAt2 V c t.val t.isLt = (out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) ((hcond2_0 t).mpr h0) (iblk2 V c 0 t) (iblk2 V c 1 t) (iblk2 V c 2 t) (iblk2 V c 3 t) (iblk2 V c 4 t) (iblk2 V c 5 t) (iblk2 V c 6 t) (iblk2 V c 7 t), out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) ((hcond2_0 t).mpr h0) (iblk2 V c 0 t) (iblk2 V c 1 t) (iblk2 V c 2 t) (iblk2 V c 3 t) (iblk2 V c 4 t) (iblk2 V c 5 t) (iblk2 V c 6 t) (iblk2 V c 7 t), out2_A_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) ((hcond2_0 t).mpr h0) (iblk2 V c 0 t) (iblk2 V c 1 t) (iblk2 V c 2 t) (iblk2 V c 3 t) (iblk2 V c 4 t) (iblk2 V c 5 t) (iblk2 V c 6 t) (iblk2 V c 7 t), out2_A_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) ((hcond2_0 t).mpr h0) (iblk2 V c 0 t) (iblk2 V c 1 t) (iblk2 V c 2 t) (iblk2 V c 3 t) (iblk2 V c 4 t) (iblk2 V c 5 t) (iblk2 V c 6 t) (iblk2 V c 7 t), out2_A_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) ((hcond2_0 t).mpr h0) (iblk2 V c 0 t) (iblk2 V c 1 t) (iblk2 V c 2 t) (iblk2 V c 3 t) (iblk2 V c 4 t) (iblk2 V c 5 t) (iblk2 V c 6 t) (iblk2 V c 7 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 5 = 0) :
    outsAt2 V c t.val t.isLt = (out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; each input's share of its array
    (`Pipeline.shareOf`: the full share of an array several windows stage, dealt among them). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt).1
    | ⟨9, _⟩ => (outsAt2 V c t.val t.isLt).2.1
    | ⟨10, _⟩ => (outsAt2 V c t.val t.isLt).2.2.1
    | ⟨11, _⟩ => (outsAt2 V c t.val t.isLt).2.2.2.1
    | ⟨12, _⟩ => (outsAt2 V c t.val t.isLt).2.2.2.2
  Φ _ := Pipeline.ΦA spec2 c
  q w := Pipeline.shareOf spec2 w
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = (outsAt2 V c t.val t.isLt).1 := by dsimp only [dat2]
theorem after2_9 (c : Dev nD) (t : Fin cfg2.N) : (dat2 V c).after 9 t = (outsAt2 V c t.val t.isLt).2.1 := by dsimp only [dat2]
theorem after2_10 (c : Dev nD) (t : Fin cfg2.N) : (dat2 V c).after 10 t = (outsAt2 V c t.val t.isLt).2.2.1 := by dsimp only [dat2]
theorem after2_11 (c : Dev nD) (t : Fin cfg2.N) : (dat2 V c).after 11 t = (outsAt2 V c t.val t.isLt).2.2.2.1 := by dsimp only [dat2]
theorem after2_12 (c : Dev nD) (t : Fin cfg2.N) : (dat2 V c).after 12 t = (outsAt2 V c t.val t.isLt).2.2.2.2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- Output 9's contents CARRY through the points that leave it idle: at such a point, its buffer not fresh, the proof data's
    `after` is the point before's (the case there stores nothing into the window and its term says so; a case that stores
    into it is not idle there by `liveAt2_9_κ`) — the hypothesis of Lib/Pipeline/TableIdle.lean `Dat.before_out_traj`. -/
theorem hcarry2_9 (c : Dev nD) : ∀ (t : Fin cfg2.N) (_ : t.val ≠ 0), cfg2.idle 9 (grid2.coords t) = true → cfg2.fresh 9 t.val = false →
    (dat2 V c).after 9 t = (dat2 V c).after 9 ⟨t.val - 1, by omega⟩ := by
  intro t _ hi _
  have hN : t.val < 5 := lt_of_lt_of_eq t.isLt (show cfg2.N = 5 from N_2)
  rw [after2_9, after2_9]
  by_cases h0 : t.val % 5 = 0
  · rw [liveAt2_9_A t ((hcond2_0 t).mpr h0)] at hi
    exact absurd hi Bool.false_ne_true
  · rw [outsAt2_B V c t h0]
    unfold out2_B_9
    rfl

/-- Output 10's contents CARRY through the points that leave it idle: at such a point, its buffer not fresh, the proof data's
    `after` is the point before's (the case there stores nothing into the window and its term says so; a case that stores
    into it is not idle there by `liveAt2_10_κ`) — the hypothesis of Lib/Pipeline/TableIdle.lean `Dat.before_out_traj`. -/
theorem hcarry2_10 (c : Dev nD) : ∀ (t : Fin cfg2.N) (_ : t.val ≠ 0), cfg2.idle 10 (grid2.coords t) = true → cfg2.fresh 10 t.val = false →
    (dat2 V c).after 10 t = (dat2 V c).after 10 ⟨t.val - 1, by omega⟩ := by
  intro t _ hi _
  have hN : t.val < 5 := lt_of_lt_of_eq t.isLt (show cfg2.N = 5 from N_2)
  rw [after2_10, after2_10]
  by_cases h0 : t.val % 5 = 0
  · rw [liveAt2_10_A t ((hcond2_0 t).mpr h0)] at hi
    exact absurd hi Bool.false_ne_true
  · rw [outsAt2_B V c t h0]
    unfold out2_B_10
    rfl

/-- Output 11's contents CARRY through the points that leave it idle: at such a point, its buffer not fresh, the proof data's
    `after` is the point before's (the case there stores nothing into the window and its term says so; a case that stores
    into it is not idle there by `liveAt2_11_κ`) — the hypothesis of Lib/Pipeline/TableIdle.lean `Dat.before_out_traj`. -/
theorem hcarry2_11 (c : Dev nD) : ∀ (t : Fin cfg2.N) (_ : t.val ≠ 0), cfg2.idle 11 (grid2.coords t) = true → cfg2.fresh 11 t.val = false →
    (dat2 V c).after 11 t = (dat2 V c).after 11 ⟨t.val - 1, by omega⟩ := by
  intro t _ hi _
  have hN : t.val < 5 := lt_of_lt_of_eq t.isLt (show cfg2.N = 5 from N_2)
  rw [after2_11, after2_11]
  by_cases h0 : t.val % 5 = 0
  · rw [liveAt2_11_A t ((hcond2_0 t).mpr h0)] at hi
    exact absurd hi Bool.false_ne_true
  · rw [outsAt2_B V c t h0]
    unfold out2_B_11
    rfl

/-- Output 12's contents CARRY through the points that leave it idle: at such a point, its buffer not fresh, the proof data's
    `after` is the point before's (the case there stores nothing into the window and its term says so; a case that stores
    into it is not idle there by `liveAt2_12_κ`) — the hypothesis of Lib/Pipeline/TableIdle.lean `Dat.before_out_traj`. -/
theorem hcarry2_12 (c : Dev nD) : ∀ (t : Fin cfg2.N) (_ : t.val ≠ 0), cfg2.idle 12 (grid2.coords t) = true → cfg2.fresh 12 t.val = false →
    (dat2 V c).after 12 t = (dat2 V c).after 12 ⟨t.val - 1, by omega⟩ := by
  intro t _ hi _
  have hN : t.val < 5 := lt_of_lt_of_eq t.isLt (show cfg2.N = 5 from N_2)
  rw [after2_12, after2_12]
  by_cases h0 : t.val % 5 = 0
  · rw [liveAt2_12_A t ((hcond2_0 t).mpr h0)] at hi
    exact absurd hi Bool.false_ne_true
  · rw [outsAt2_B V c t h0]
    unfold out2_B_12
    rfl
/-- At a point of case B output 9's current staging buffer holds what the point before left: the buffer is not fresh
    there (`notFresh2_9_B`: stored into since the region's entry or the last write-back, carried through the points that
    leave it idle by `hcarry2_9`; Lib/Pipeline/TableIdle.lean `Dat.before_out_traj`). -/
theorem before2_9_B (c : Dev nD) (t : Fin cfg2.N) (h0 : ¬t.val % 5 = 0) (d) :
    (dat2 V c).before 9 t d = (outsAt2 V c (t.val - 1) (Nat.lt_of_le_of_lt (Nat.sub_le _ _) t.isLt)).2.1 := by
  rw [Dat.before_out_traj _ 9 rfl (fun _ _ => rfl) (hcarry2_9 V c) t.val t rfl d,
    if_neg (by rw [notFresh2_9_B t (fun h => h0 ((hcond2_0 t).mp h))]; exact Bool.false_ne_true)]
  dsimp only [dat2]
/-- At a point of case B output 10's current staging buffer holds what the point before left: the buffer is not fresh
    there (`notFresh2_10_B`: stored into since the region's entry or the last write-back, carried through the points that
    leave it idle by `hcarry2_10`; Lib/Pipeline/TableIdle.lean `Dat.before_out_traj`). -/
theorem before2_10_B (c : Dev nD) (t : Fin cfg2.N) (h0 : ¬t.val % 5 = 0) (d) :
    (dat2 V c).before 10 t d = (outsAt2 V c (t.val - 1) (Nat.lt_of_le_of_lt (Nat.sub_le _ _) t.isLt)).2.2.1 := by
  rw [Dat.before_out_traj _ 10 rfl (fun _ _ => rfl) (hcarry2_10 V c) t.val t rfl d,
    if_neg (by rw [notFresh2_10_B t (fun h => h0 ((hcond2_0 t).mp h))]; exact Bool.false_ne_true)]
  dsimp only [dat2]
/-- At a point of case B output 11's current staging buffer holds what the point before left: the buffer is not fresh
    there (`notFresh2_11_B`: stored into since the region's entry or the last write-back, carried through the points that
    leave it idle by `hcarry2_11`; Lib/Pipeline/TableIdle.lean `Dat.before_out_traj`). -/
theorem before2_11_B (c : Dev nD) (t : Fin cfg2.N) (h0 : ¬t.val % 5 = 0) (d) :
    (dat2 V c).before 11 t d = (outsAt2 V c (t.val - 1) (Nat.lt_of_le_of_lt (Nat.sub_le _ _) t.isLt)).2.2.2.1 := by
  rw [Dat.before_out_traj _ 11 rfl (fun _ _ => rfl) (hcarry2_11 V c) t.val t rfl d,
    if_neg (by rw [notFresh2_11_B t (fun h => h0 ((hcond2_0 t).mp h))]; exact Bool.false_ne_true)]
  dsimp only [dat2]
/-- At a point of case B output 12's current staging buffer holds what the point before left: the buffer is not fresh
    there (`notFresh2_12_B`: stored into since the region's entry or the last write-back, carried through the points that
    leave it idle by `hcarry2_12`; Lib/Pipeline/TableIdle.lean `Dat.before_out_traj`). -/
theorem before2_12_B (c : Dev nD) (t : Fin cfg2.N) (h0 : ¬t.val % 5 = 0) (d) :
    (dat2 V c).before 12 t d = (outsAt2 V c (t.val - 1) (Nat.lt_of_le_of_lt (Nat.sub_le _ _) t.isLt)).2.2.2.2 := by
  rw [Dat.before_out_traj _ 12 rfl (fun _ _ => rfl) (hcarry2_12 V c) t.val t rfl d,
    if_neg (by rw [notFresh2_12_B t (fun h => h0 ((hcond2_0 t).mp h))]; exact Bool.false_ne_true)]
  dsimp only [dat2]

end Regions

end Cert.KernelIdeal.Gen

end
-- ==== Proof.Frame.Region2Body.lean ====
module

public import proofs.«01_k».proof.Proof.Frame.Region2

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-- At a point of case B the contents kept in output 9's buffer are what the point must leave there. -/
theorem kept_leaves9 (c : Dev nD) (t : Fin cfg2.N) (h0 : ¬t.val % 5 = 0) :
    (owns (c : Thread nD τ) (ms2_9 t) fullShare (outsAt2 V c (t.val - 1) (Nat.lt_of_le_of_lt (Nat.sub_le _ _) t.isLt)).2.1 : sProp 𝕄)
      ⊢ (dat2 V c).leavesExact 9 t := by
  have ha : (dat2 V c).after 9 t = (outsAt2 V c (t.val - 1) (Nat.lt_of_le_of_lt (Nat.sub_le _ _) t.isLt)).2.1 := by
    rw [after2_9, outsAt2_B V c t h0]
    unfold out2_B_9
    rfl
  unfold Dat.leavesExact
  rw [idleAt2_9_B t (fun h => h0 ((hcond2_0 t).mp h))]
  cases hf : (cfg2.win 9).flush t with
  | false =>
    dsimp only
    iintro H
    iexists (fun _ => default)
    rw [before2_9_B V c t h0]
    iexact H
  | true =>
    dsimp only
    rw [ha]

/-- At a point of case B the contents kept in output 10's buffer are what the point must leave there. -/
theorem kept_leaves10 (c : Dev nD) (t : Fin cfg2.N) (h0 : ¬t.val % 5 = 0) :
    (owns (c : Thread nD τ) (ms2_10 t) fullShare (outsAt2 V c (t.val - 1) (Nat.lt_of_le_of_lt (Nat.sub_le _ _) t.isLt)).2.2.1 : sProp 𝕄)
      ⊢ (dat2 V c).leavesExact 10 t := by
  have ha : (dat2 V c).after 10 t = (outsAt2 V c (t.val - 1) (Nat.lt_of_le_of_lt (Nat.sub_le _ _) t.isLt)).2.2.1 := by
    rw [after2_10, outsAt2_B V c t h0]
    unfold out2_B_10
    rfl
  unfold Dat.leavesExact
  rw [idleAt2_10_B t (fun h => h0 ((hcond2_0 t).mp h))]
  cases hf : (cfg2.win 10).flush t with
  | false =>
    dsimp only
    iintro H
    iexists (fun _ => default)
    rw [before2_10_B V c t h0]
    iexact H
  | true =>
    dsimp only
    rw [ha]

/-- At a point of case B the contents kept in output 11's buffer are what the point must leave there. -/
theorem kept_leaves11 (c : Dev nD) (t : Fin cfg2.N) (h0 : ¬t.val % 5 = 0) :
    (owns (c : Thread nD τ) (ms2_11 t) fullShare (outsAt2 V c (t.val - 1) (Nat.lt_of_le_of_lt (Nat.sub_le _ _) t.isLt)).2.2.2.1 : sProp 𝕄)
      ⊢ (dat2 V c).leavesExact 11 t := by
  have ha : (dat2 V c).after 11 t = (outsAt2 V c (t.val - 1) (Nat.lt_of_le_of_lt (Nat.sub_le _ _) t.isLt)).2.2.2.1 := by
    rw [after2_11, outsAt2_B V c t h0]
    unfold out2_B_11
    rfl
  unfold Dat.leavesExact
  rw [idleAt2_11_B t (fun h => h0 ((hcond2_0 t).mp h))]
  cases hf : (cfg2.win 11).flush t with
  | false =>
    dsimp only
    iintro H
    iexists (fun _ => default)
    rw [before2_11_B V c t h0]
    iexact H
  | true =>
    dsimp only
    rw [ha]

/-- At a point of case B the contents kept in output 12's buffer are what the point must leave there. -/
theorem kept_leaves12 (c : Dev nD) (t : Fin cfg2.N) (h0 : ¬t.val % 5 = 0) :
    (owns (c : Thread nD τ) (ms2_12 t) fullShare (outsAt2 V c (t.val - 1) (Nat.lt_of_le_of_lt (Nat.sub_le _ _) t.isLt)).2.2.2.2 : sProp 𝕄)
      ⊢ (dat2 V c).leavesExact 12 t := by
  have ha : (dat2 V c).after 12 t = (outsAt2 V c (t.val - 1) (Nat.lt_of_le_of_lt (Nat.sub_le _ _) t.isLt)).2.2.2.2 := by
    rw [after2_12, outsAt2_B V c t h0]
    unfold out2_B_12
    rfl
  unfold Dat.leavesExact
  rw [idleAt2_12_B t (fun h => h0 ((hcond2_0 t).mp h))]
  cases hf : (cfg2.win 12).flush t with
  | false =>
    dsimp only
    iintro H
    iexists (fun _ => default)
    rw [before2_12_B V c t h0]
    iexact H
  | true =>
    dsimp only
    rw [ha]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t)

set_option maxHeartbeats 2400000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl]
  have hN : t.val < 5 := lt_of_lt_of_eq t.isLt (show cfg2.N = 5 from N_2)
  by_cases h0 : t.val % 5 = 0
  · rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [show (dat2 V c).leavesExact 6 t = owns (c : Thread nD τ) (ms2_6 t) fullShare ((dat2 V c).after 6 t) from by
      unfold Dat.leavesExact; rw [liveAt2_6 t], after2_6]
    rw [show (dat2 V c).leavesExact 7 t = owns (c : Thread nD τ) (ms2_7 t) fullShare ((dat2 V c).after 7 t) from by
      unfold Dat.leavesExact; rw [liveAt2_7 t], after2_7]
    rw [show (dat2 V c).leavesExact 8 t = owns (c : Thread nD τ) (ms2_8 t) fullShare ((dat2 V c).after 8 t) from by
      unfold Dat.leavesExact; rw [liveAt2_8 t], after2_8]
    rw [show (dat2 V c).leavesExact 9 t = owns (c : Thread nD τ) (ms2_9 t) fullShare ((dat2 V c).after 9 t) from by
      unfold Dat.leavesExact; rw [liveAt2_9_A t ((hcond2_0 t).mpr h0)], after2_9]
    rw [show (dat2 V c).leavesExact 10 t = owns (c : Thread nD τ) (ms2_10 t) fullShare ((dat2 V c).after 10 t) from by
      unfold Dat.leavesExact; rw [liveAt2_10_A t ((hcond2_0 t).mpr h0)], after2_10]
    rw [show (dat2 V c).leavesExact 11 t = owns (c : Thread nD τ) (ms2_11 t) fullShare ((dat2 V c).after 11 t) from by
      unfold Dat.leavesExact; rw [liveAt2_11_A t ((hcond2_0 t).mpr h0)], after2_11]
    rw [show (dat2 V c).leavesExact 12 t = owns (c : Thread nD τ) (ms2_12 t) fullShare ((dat2 V c).after 12 t) from by
      unfold Dat.leavesExact; rw [liveAt2_12_A t ((hcond2_0 t).mpr h0)], after2_12]
    rw [outsAt2_A V c t h0]
    unfold out2_A_8 out2_A_9 out2_A_10 out2_A_11 out2_A_12; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun2_A c (grid2.coords t) _ _ _ _ _ _ _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t) (iblk2 V c 7 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, ⟨%e8, H8⟩, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover2_A_8 c _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover2_A_9 c _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover2_A_10 c _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover2_A_11 c _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover2_A_12 c _ _ _ _ _ _ _ _ _ _ _ _ _ _ _ _ _ _ _ _ _ _ _ _ _ _ _ _ _ _ _ _ _ _ _ _)
  · rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [show (dat2 V c).leavesExact 6 t = owns (c : Thread nD τ) (ms2_6 t) fullShare ((dat2 V c).after 6 t) from by
      unfold Dat.leavesExact; rw [liveAt2_6 t], after2_6]
    rw [show (dat2 V c).leavesExact 7 t = owns (c : Thread nD τ) (ms2_7 t) fullShare ((dat2 V c).after 7 t) from by
      unfold Dat.leavesExact; rw [liveAt2_7 t], after2_7]
    rw [show (dat2 V c).leavesExact 8 t = owns (c : Thread nD τ) (ms2_8 t) fullShare ((dat2 V c).after 8 t) from by
      unfold Dat.leavesExact; rw [liveAt2_8 t], after2_8]
    rw [outsAt2_B V c t h0]
    simp only [before2_9_B V c t h0, before2_10_B V c t h0, before2_11_B V c t h0, before2_12_B V c t h0]
    unfold out2_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun2_B c (grid2.coords t) _ _ _ _ _ _ _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iexact H12
    iintro ⟨H0, H1, H2, H3, H4, H5, H6, H7, ⟨%e8, H8⟩, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover2_B_8 c _ _ _ _ _ _ _ _ _ _ _ _ _ _ _ _ _ _ _ _ _ _ _ _ _ _ _ _ _ _ _ _ _ _ _ _ _ _ _ _)
    isplitl [H9]; · iapply (kept_leaves9 V c t h0); iexact H9
    isplitl [H10]; · iapply (kept_leaves10 V c t h0); iexact H10
    isplitl [H11]; · iapply (kept_leaves11 V c t h0); iexact H11
    iapply (kept_leaves12 V c t h0); iexact H12

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Frame.Hosts0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The operations on the host between the three kernel calls: which buffers each writes. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

end Cert.KernelIdeal.Gen

end
-- ==== Proof.Frame.Fold0.lean ====
module

public import proofs.«01_k».proof.Proof.Frame.Region0
public import proofs.«01_k».proof.Proof.Frame.Region1
public import proofs.«01_k».proof.Proof.Frame.Region2Body
public import proofs.«01_k».proof.Proof.Frame.Hosts0

/-! The contents of every buffer at each boundary between a host stretch and a kernel call, and that the arguments stay as launched. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact (dat2 (V4 m ρ) c).withArrays_arrAt launch₀2.sharedIn _ (A_eq2 (V4 m ρ) c) w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays_shared`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
end Cert.KernelIdeal.Gen

end
-- ==== Proof.Frame.State.lean ====
module

public import proofs.«01_k».proof.Proof.Frame.Fold0

/-! The proof data of the three kernel calls taken together, and the state of the thread between them. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

end Cert.KernelIdeal.Gen

end
-- ==== Proof.Frame.Record0.lean ====
module

public import proofs.«01_k».proof.Proof.Frame.State

/-! The first kernel call as a segment of the program. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record1.lean ====
module

public import proofs.«01_k».proof.Proof.Frame.State

/-! The second kernel call as a segment of the program. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record2.lean ====
module

public import proofs.«01_k».proof.Proof.Frame.State

/-! The third kernel call as a segment of the program. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the launch reads at the end). Its arrays split out of the unscoped buffers
    (`arrays_of_unscopedBufs_shared`) and put back at the exit contents (`unscopedBufs_of_arrays_shared`; its input windows on one array (`launch₀2.sharedIn`) each dealt their share of it, `Pipeline.shareOf`, by the proof data); the generator register into the
    class invariant `ΦA` and out; nothing owed; no semaphore of the kernel's own. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.Frame.Run.lean ====
module

public import proofs.«01_k».proof.Proof.Frame.Record0
public import proofs.«01_k».proof.Proof.Frame.Record1
public import proofs.«01_k».proof.Proof.Frame.Record2

/-! The whole program runs, ends with its arguments as launched, and every buffer ends at the last boundary contents. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: at the compiled mesh, from any memory with zero counters, every weakly fair execution of @main on the
    TensorCores terminates without a fault, and in every final state each TensorCore buffer holds the last boundary's
    contents `W5` and every semaphore counter is zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c => h c, funext fun g => hz g (.inr (no_unscoped g.2))⟩)

/-- The frame: in every final state of the run the argument arrays are as launched and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c)⟩, h.2⟩) (run m ρ)

end Cert.KernelIdeal.Gen

end
-- ==== Proof.RefValues.lean ====
module
public import proofs.«01_k».proof.Proof.Gen.ReferenceIdeal.Value
-- ==== Proof.Value.Scale.lean ====
module

public import Idealize.ShloMosaic.PureOps.Ideal

/-! The scale of a delayed-scaling quantiser, at exact arithmetic.

A word `n * 2^23` read as a float is a power of two, `pow2 n`. The kernel finds the largest such power not
above a number by bisection on `n`; the reference takes the maximum over the table of all normal powers.
Here both are shown to give the same scale, and the kernel's second word to give its reciprocal. -/

@[expose] public section

noncomputable section

namespace Cert.Scale

open Idealize.ShloMosaic

/-- The float whose word is `n` in the exponent field and zero elsewhere. -/
def pow2 (n : ℕ) : EReal := Ideal.ofBits .f32 (BitVec.ofNat 32 n <<< 23)

theorem fields (n : Fin 256) :
    ((BitVec.ofNat 32 n.val <<< 23).extractLsb' 31 1 = 0#1) ∧
      ((BitVec.ofNat 32 n.val <<< 23).extractLsb' 23 8).toNat = n.val ∧
      ((BitVec.ofNat 32 n.val <<< 23).extractLsb' 0 23).toNat = 0 := by
  revert n; decide +kernel

theorem pow2_zero : pow2 0 = 0 := by
  obtain ⟨h1, h2, h3⟩ := fields 0
  simp only [Fin.val_zero] at h1 h2 h3
  unfold pow2 Ideal.ofBits Ideal.ieee
  simp only [Nat.reduceAdd, h1, h2, h3]
  norm_num

theorem pow2_top : pow2 255 = ⊤ := by
  obtain ⟨h1, h2, h3⟩ := fields 255
  simp only [show ((255 : Fin 256)).val = 255 from rfl] at h1 h2 h3
  unfold pow2 Ideal.ofBits Ideal.ieee
  simp only [Nat.reduceAdd, h1, h2, h3]
  norm_num

theorem pow2_coe (n : ℕ) (h0 : 1 ≤ n) (h1 : n ≤ 254) : pow2 n = (((2 : ℝ) ^ ((n : ℤ) - 127) : ℝ) : EReal) := by
  obtain ⟨h1', h2, h3⟩ := fields ⟨n, by omega⟩
  simp only at h1' h2 h3
  unfold pow2 Ideal.ofBits Ideal.ieee
  simp only [Nat.reduceAdd, h1', h2, h3]
  rw [if_neg (by norm_num; omega), if_neg (by omega)]
  refine congrArg (fun r : ℝ => (r : EReal)) ?_
  have h4 : ((n : ℤ) - (2 ^ (8 - 1) - 1) - (23 : ℕ)) = (n : ℤ) - 127 - 23 := by norm_num
  rw [h4, zpow_sub₀ (by norm_num : (2 : ℝ) ≠ 0) ((n : ℤ) - 127) 23]
  rw [if_neg (by decide)]
  have h5 : ((2 ^ 23 + 0 : ℕ) : ℝ) = (2 : ℝ) ^ (23 : ℤ) := by norm_num
  rw [h5, one_mul, mul_div_cancel₀ _ (by positivity)]

theorem pow2_lt {m n : ℕ} (h : m < n) (hn : n ≤ 255) : pow2 m < pow2 n := by
  rcases Nat.eq_zero_or_pos m with rfl | hm
  · rw [pow2_zero]
    rcases Nat.eq_or_lt_of_le hn with rfl | hn'
    · rw [pow2_top]; exact EReal.zero_lt_top
    · rw [pow2_coe n (by omega) (by omega)]
      exact_mod_cast (by positivity : (0 : ℝ) < (2 : ℝ) ^ ((n : ℤ) - 127))
  · rw [pow2_coe m hm (by omega)]
    rcases Nat.eq_or_lt_of_le hn with rfl | hn'
    · rw [pow2_top]; exact EReal.coe_lt_top _
    · rw [pow2_coe n (by omega) (by omega)]
      exact_mod_cast (zpow_lt_zpow_iff_right₀ (by norm_num : (1 : ℝ) < 2)).2
        (show (m : ℤ) - 127 < (n : ℤ) - 127 by omega)

theorem pow2_le {m n : ℕ} (h : m ≤ n) (hn : n ≤ 255) : pow2 m ≤ pow2 n := by
  rcases Nat.eq_or_lt_of_le h with rfl | h
  · exact le_rfl
  · exact (pow2_lt h hn).le

/-- One step of the bisection, on words. -/
def step (b : EReal) (s e : BitVec 32) : BitVec 32 :=
  Scalar.select (Scalar.cmpf (F := Ideal) (φ := .f32) .ole
    (Scalar.ofBits (F := Ideal) .f32 (Scalar.shli (Scalar.addi e s) 23#32)) b) (Scalar.addi e s) e

theorem step_nat (b : EReal) (s e : ℕ) :
    step b (BitVec.ofNat 32 s) (BitVec.ofNat 32 e) =
      BitVec.ofNat 32 (if pow2 (e + s) ≤ b then e + s else e) := by
  have hadd : Scalar.addi (BitVec.ofNat 32 e) (BitVec.ofNat 32 s) = BitVec.ofNat 32 (e + s) :=
    (BitVec.ofNat_add e s).symm
  have hsh : ∀ v : BitVec 32, Scalar.shli v 23#32 = v <<< 23 := fun v => by
    unfold Scalar.shli IntOp.shli
    rw [if_pos (by decide)]; rfl
  unfold step
  rw [hadd, hsh]
  show (if BitVec.ofBool (decide (pow2 (e + s) ≤ b)) = 1 then _ else _) = _
  by_cases h : pow2 (e + s) ≤ b
  · simp [h]
  · simp [h]

/-- The bisection: the exponent field of the largest power of two not above `b`. -/
def field (b : EReal) : BitVec 32 :=
  step b 1#32 (step b 2#32 (step b 4#32 (step b 8#32 (step b 16#32 (step b 32#32 (step b 64#32 (step b 128#32 0#32)))))))

/-- What the bisection knows: `pow2 e` is not above `b`, and every power from `e + w` on is. -/
def Inv (b : EReal) (e w : ℕ) : Prop := e + w ≤ 256 ∧ pow2 e ≤ b ∧ ∀ k, e + w ≤ k → k ≤ 255 → b < pow2 k

theorem inv_step {b : EReal} {e w : ℕ} (hw : 0 < w) (h : Inv b e (w + w)) :
    ∃ e', step b (BitVec.ofNat 32 w) (BitVec.ofNat 32 e) = BitVec.ofNat 32 e' ∧ Inv b e' w := by
  obtain ⟨h0, h1, h2⟩ := h
  refine ⟨_, step_nat b w e, ?_⟩
  by_cases hp : pow2 (e + w) ≤ b
  · rw [if_pos hp]
    exact ⟨by omega, hp, fun k hk hk' => h2 k (by omega) hk'⟩
  · rw [if_neg hp]
    refine ⟨by omega, h1, fun k hk hk' => lt_of_lt_of_le (not_le.1 hp) (pow2_le hk hk')⟩

theorem field_spec {b : EReal} (h0 : 0 ≤ b) :
    ∃ n, field b = BitVec.ofNat 32 n ∧ n ≤ 255 ∧ pow2 n ≤ b ∧ ∀ k, n < k → k ≤ 255 → b < pow2 k := by
  have I0 : Inv b 0 (128 + 128) := ⟨by omega, by rw [pow2_zero]; exact h0, fun k h h' => by omega⟩
  obtain ⟨e1, q1, I1⟩ := inv_step (by omega) I0
  obtain ⟨e2, q2, I2⟩ := inv_step (w := 64) (by omega) I1
  obtain ⟨e3, q3, I3⟩ := inv_step (w := 32) (by omega) I2
  obtain ⟨e4, q4, I4⟩ := inv_step (w := 16) (by omega) I3
  obtain ⟨e5, q5, I5⟩ := inv_step (w := 8) (by omega) I4
  obtain ⟨e6, q6, I6⟩ := inv_step (w := 4) (by omega) I5
  obtain ⟨e7, q7, I7⟩ := inv_step (w := 2) (by omega) I6
  obtain ⟨e8, q8, I8⟩ := inv_step (w := 1) (by omega) I7
  refine ⟨e8, ?_, by have := I8.1; omega, I8.2.1, fun k hk hk' => I8.2.2 k (by omega) hk'⟩
  unfold field
  rw [q1, q2, q3, q4, q5, q6, q7, q8]

/-- The kernel's exponent shift: one more than the unbiased exponent, and zero for a zero or infinite field. -/
def shift (E : BitVec 32) : BitVec 32 :=
  Scalar.select (Scalar.andi (Scalar.cmpi .ne E 0#32) (Scalar.cmpi .ne E 255#32)) (Scalar.subi E 126#32) 0#32

/-- The kernel's scale. -/
def scale (b : EReal) : EReal :=
  Scalar.ofBits (F := Ideal) .f32 (Scalar.shli (Scalar.addi 127#32 (shift (field b))) 23#32)

/-- The kernel's reciprocal scale. -/
def recip (b : EReal) : EReal :=
  Scalar.ofBits (F := Ideal) .f32 (Scalar.shli (Scalar.subi 127#32 (shift (field b))) 23#32)

theorem words (n : Fin 253) :
    Scalar.shli (Scalar.addi 127#32 (shift (BitVec.ofNat 32 n.val))) 23#32
        = BitVec.ofNat 32 (if n.val = 0 then 127 else n.val + 1) <<< 23 ∧
      Scalar.shli (Scalar.subi 127#32 (shift (BitVec.ofNat 32 n.val))) 23#32
        = BitVec.ofNat 32 (if n.val = 0 then 127 else 253 - n.val) <<< 23 := by
  have hsh : ∀ v : BitVec 32, Scalar.shli v 23#32 = v <<< 23 := fun v => by
    unfold Scalar.shli IntOp.shli
    rw [if_pos (by decide)]; rfl
  rw [hsh, hsh]
  revert n
  decide +kernel

theorem pow2_127 : pow2 127 = 1 := by rw [pow2_coe 127 (by omega) (by omega)]; norm_num

/-- The largest table entry not above `b` (zero when there is none). -/
def below (b : EReal) : EReal :=
  Finset.univ.sup (fun k : Fin 254 => if pow2 (k.val + 1) ≤ b then pow2 (k.val + 1) else 0)

/-- The reference's scale: twice the largest normal power of two not above `b`, and one when there is none. -/
def refScale (b : EReal) : EReal := if below b = 0 then 1 else 2 * below b

theorem below_eq {b : EReal} {n : ℕ} (hn : n ≤ 254) (h1 : pow2 n ≤ b) (h2 : ∀ k, n < k → k ≤ 255 → b < pow2 k) :
    below b = pow2 n := by
  apply le_antisymm
  · apply Finset.sup_le
    intro k _
    split_ifs with h
    · refine pow2_le ?_ (by omega)
      by_contra hk
      exact absurd h (not_le.2 (h2 _ (by omega) (by omega)))
    · rw [← pow2_zero]; exact pow2_le (by omega) (by omega)
  · rcases Nat.eq_zero_or_pos n with rfl | hp
    · rw [pow2_zero]
      refine le_trans ?_ (Finset.le_sup (Finset.mem_univ (0 : Fin 254)))
      split_ifs
      · rw [← pow2_zero]; exact pow2_le (by omega) (by norm_num)
      · exact le_rfl
    · refine le_trans ?_ (Finset.le_sup (Finset.mem_univ (⟨n - 1, by omega⟩ : Fin 254)))
      simp only [show n - 1 + 1 = n by omega, if_pos h1, le_refl]

/-- The kernel's scale is the reference's, and its second word is one over it. -/
theorem scale_spec {b : EReal} (h0 : 0 ≤ b) (hb : b < pow2 253) :
    scale b = refScale b ∧ recip b = Ideal.div 1 (refScale b) := by
  obtain ⟨n, hf, hn, hle, hlt⟩ := field_spec h0
  have hn' : n < 253 := by
    by_contra h
    exact absurd (lt_of_le_of_lt hle hb) (not_lt.2 (pow2_le (by omega) hn))
  obtain ⟨w1, w2⟩ := words ⟨n, hn'⟩
  simp only at w1 w2
  have hs : scale b = pow2 (if n = 0 then 127 else n + 1) := by unfold scale pow2; rw [hf, w1]; rfl
  have hr : recip b = pow2 (if n = 0 then 127 else 253 - n) := by unfold recip pow2; rw [hf, w2]; rfl
  have hbelow := below_eq (by omega) hle hlt
  rw [hs, hr]
  unfold refScale
  rw [hbelow]
  rcases Nat.eq_zero_or_pos n with rfl | hp
  · simp only [if_pos, pow2_zero, pow2_127, true_and]
    have := Ideal.div_coe (y := 1) one_ne_zero 1
    simpa using this.symm
  · have hne : pow2 n ≠ 0 := by rw [← pow2_zero]; exact (pow2_lt hp (by omega)).ne'
    rw [if_neg hne, if_neg (by omega), if_neg (by omega)]
    have h2 : (2 : EReal) * pow2 n = (((2 : ℝ) ^ ((n : ℤ) + 1 - 127) : ℝ) : EReal) := by
      rw [pow2_coe n hp (by omega)]
      rw [show (2 : EReal) = ((2 : ℝ) : EReal) from rfl, ← EReal.coe_mul]
      congr 1
      rw [show (n : ℤ) + 1 - 127 = 1 + ((n : ℤ) - 127) by ring, zpow_add₀ (by norm_num : (2 : ℝ) ≠ 0), zpow_one]
    rw [h2]
    constructor
    · rw [pow2_coe (n + 1) (by omega) (by omega)]; push_cast; rfl
    · rw [Ideal.div_coe (by positivity), pow2_coe (253 - n) (by omega) (by omega), one_mul]
      congr 1
      rw [one_div, ← zpow_neg]
      congr 1
      omega

end Cert.Scale
-- ==== Proof.Value.RefOut.lean ====
module

public import proofs.«01_k».proof.Proof.Gen.ReferenceIdeal.Value
public import proofs.«01_k».proof.Proof.Value.Scale
public import Idealize.ShloMosaic.Lib.ValueIdx
public import Idealize.ShloMosaic.Lib.Tactic

/-! What each output of the reference's one call holds after its body, at exact arithmetic, as a function of the
three arrays and the three scales it reads. -/

@[expose] public section

set_option maxRecDepth 65536

noncomputable section

namespace Cert.ReferenceIdeal.Value

open Idealize.ShloMosaic Idealize.ShloMosaic.TcCoe Idealize.ShloMosaic.ValueIdx Idealize.SL.Sem
open Cert.ReferenceIdeal Cert.ReferenceIdeal.Gen

theorem hz : (![0, 0] : Fin 2 → Nat) = fun _ => 0 := funext fun a => by fin_cases a <;> rfl

/-- A one-entry array's entry, as the body loads it. -/
def sc (s : Vec Ideal S1 .f32) : EReal :=
  View.ld (Val := Elt Ideal) (e' := .f32) s (Rect.unit (s := S1) ![0] S1.size inb_S1_S1_0)
    (Shape.Idx.first (numel1_S1.symm ▸ Nat.one_pos))

theorem sc_eq (s : Vec Ideal S1 .f32) : sc s = s (ix1 0) := by
  unfold sc
  refine congrArg s (funext fun a => Fin.ext ?_)
  match a with
  | ⟨0, _⟩ => rfl

theorem out0_A_6_eq (c : Dev nD) (arg0 : Memref sig .tc .vmem S6144x3200 .bf16) (harg0 : arg0.IsWhole) (arg1 : Memref sig .tc .vmem S3200x2048 .bf16) (harg1 : arg1.IsWhole) (arg2 : Memref sig .tc .vmem S6144x2048 .bf16) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S6144x2048 .bf16) (harg6 : arg6.IsWhole) (arg7 : Memref sig .tc .vmem S6144x3200 .bf16) (harg7 : arg7.IsWhole) (arg8 : Memref sig .tc .vmem S3200x2048 .f32) (harg8 : arg8.IsWhole) (arg9 : Memref sig .tc .vmem S6144x3200 .fp8e4m3) (harg9 : arg9.IsWhole) (arg10 : Memref sig .tc .vmem S3200x2048 .fp8e4m3) (harg10 : arg10.IsWhole) (arg11 : Memref sig .tc .vmem S6144x2048 .fp8e5m2) (harg11 : arg11.IsWhole)
    (x0 : Vec Ideal S6144x3200 .bf16) (x1 : Vec Ideal S3200x2048 .bf16) (x2 : Vec Ideal S6144x2048 .bf16) (x3 : Vec Ideal S1 .f32) (x4 : Vec Ideal S1 .f32) (x5 : Vec Ideal S1 .f32) :
    out0_A_6 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = k0_pay1 (k0_pay7 (sc x3) (sc x4) x0 x1) (k0_pay10 (sc x3) (sc x4)) := by
  unfold out0_A_6
  rw [View.read_writes_eq_canon _ _ _ (cover0_A_6 c arg0 harg0 arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  rw [View.canon_unit_zero hz]
  simp only [View.readAt_eq_ld, harg0.read_unread, harg1.read_unread, harg2.read_unread, harg3.read_unread, harg4.read_unread, harg5.read_unread, harg6.read_unread, harg7.read_unread, harg8.read_unread, harg9.read_unread, harg10.read_unread, harg11.read_unread, View.ld_unit_zero (S := S3200x2048) hz, View.ld_unit_zero (S := S6144x2048) hz, View.ld_unit_zero (S := S6144x3200) hz]
  sl_kernel_rfl

theorem out0_A_7_eq (c : Dev nD) (arg0 : Memref sig .tc .vmem S6144x3200 .bf16) (harg0 : arg0.IsWhole) (arg1 : Memref sig .tc .vmem S3200x2048 .bf16) (harg1 : arg1.IsWhole) (arg2 : Memref sig .tc .vmem S6144x2048 .bf16) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S6144x2048 .bf16) (harg6 : arg6.IsWhole) (arg7 : Memref sig .tc .vmem S6144x3200 .bf16) (harg7 : arg7.IsWhole) (arg8 : Memref sig .tc .vmem S3200x2048 .f32) (harg8 : arg8.IsWhole) (arg9 : Memref sig .tc .vmem S6144x3200 .fp8e4m3) (harg9 : arg9.IsWhole) (arg10 : Memref sig .tc .vmem S3200x2048 .fp8e4m3) (harg10 : arg10.IsWhole) (arg11 : Memref sig .tc .vmem S6144x2048 .fp8e5m2) (harg11 : arg11.IsWhole)
    (x0 : Vec Ideal S6144x3200 .bf16) (x1 : Vec Ideal S3200x2048 .bf16) (x2 : Vec Ideal S6144x2048 .bf16) (x3 : Vec Ideal S1 .f32) (x4 : Vec Ideal S1 .f32) (x5 : Vec Ideal S1 .f32) :
    out0_A_7 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = k0_pay2 (sc x4) (sc x5) (k0_pay8 (sc x4) (sc x5) x1 x2) := by
  unfold out0_A_7
  rw [View.read_writes_eq_canon _ _ _ (cover0_A_7 c arg0 harg0 arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  rw [View.canon_unit_zero hz]
  simp only [View.readAt_eq_ld, harg0.read_unread, harg1.read_unread, harg2.read_unread, harg3.read_unread, harg4.read_unread, harg5.read_unread, harg6.read_unread, harg7.read_unread, harg8.read_unread, harg9.read_unread, harg10.read_unread, harg11.read_unread, View.ld_unit_zero (S := S3200x2048) hz, View.ld_unit_zero (S := S6144x2048) hz, View.ld_unit_zero (S := S6144x3200) hz]
  sl_kernel_rfl

theorem out0_A_8_eq (c : Dev nD) (arg0 : Memref sig .tc .vmem S6144x3200 .bf16) (harg0 : arg0.IsWhole) (arg1 : Memref sig .tc .vmem S3200x2048 .bf16) (harg1 : arg1.IsWhole) (arg2 : Memref sig .tc .vmem S6144x2048 .bf16) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S6144x2048 .bf16) (harg6 : arg6.IsWhole) (arg7 : Memref sig .tc .vmem S6144x3200 .bf16) (harg7 : arg7.IsWhole) (arg8 : Memref sig .tc .vmem S3200x2048 .f32) (harg8 : arg8.IsWhole) (arg9 : Memref sig .tc .vmem S6144x3200 .fp8e4m3) (harg9 : arg9.IsWhole) (arg10 : Memref sig .tc .vmem S3200x2048 .fp8e4m3) (harg10 : arg10.IsWhole) (arg11 : Memref sig .tc .vmem S6144x2048 .fp8e5m2) (harg11 : arg11.IsWhole)
    (x0 : Vec Ideal S6144x3200 .bf16) (x1 : Vec Ideal S3200x2048 .bf16) (x2 : Vec Ideal S6144x2048 .bf16) (x3 : Vec Ideal S1 .f32) (x4 : Vec Ideal S1 .f32) (x5 : Vec Ideal S1 .f32) :
    out0_A_8 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = k0_pay3 (sc x3) (sc x5) (k0_pay9 (sc x3) (sc x5) x0 x2) := by
  unfold out0_A_8
  rw [View.read_writes_eq_canon _ _ _ (cover0_A_8 c arg0 harg0 arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  rw [View.canon_unit_zero hz]
  simp only [View.readAt_eq_ld, harg0.read_unread, harg1.read_unread, harg2.read_unread, harg3.read_unread, harg4.read_unread, harg5.read_unread, harg6.read_unread, harg7.read_unread, harg8.read_unread, harg9.read_unread, harg10.read_unread, harg11.read_unread, View.ld_unit_zero (S := S3200x2048) hz, View.ld_unit_zero (S := S6144x2048) hz, View.ld_unit_zero (S := S6144x3200) hz]
  sl_kernel_rfl

theorem out0_A_9_eq (c : Dev nD) (arg0 : Memref sig .tc .vmem S6144x3200 .bf16) (harg0 : arg0.IsWhole) (arg1 : Memref sig .tc .vmem S3200x2048 .bf16) (harg1 : arg1.IsWhole) (arg2 : Memref sig .tc .vmem S6144x2048 .bf16) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S6144x2048 .bf16) (harg6 : arg6.IsWhole) (arg7 : Memref sig .tc .vmem S6144x3200 .bf16) (harg7 : arg7.IsWhole) (arg8 : Memref sig .tc .vmem S3200x2048 .f32) (harg8 : arg8.IsWhole) (arg9 : Memref sig .tc .vmem S6144x3200 .fp8e4m3) (harg9 : arg9.IsWhole) (arg10 : Memref sig .tc .vmem S3200x2048 .fp8e4m3) (harg10 : arg10.IsWhole) (arg11 : Memref sig .tc .vmem S6144x2048 .fp8e5m2) (harg11 : arg11.IsWhole)
    (x0 : Vec Ideal S6144x3200 .bf16) (x1 : Vec Ideal S3200x2048 .bf16) (x2 : Vec Ideal S6144x2048 .bf16) (x3 : Vec Ideal S1 .f32) (x4 : Vec Ideal S1 .f32) (x5 : Vec Ideal S1 .f32) :
    out0_A_9 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = k0_pay4 (sc x3) x0 := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  rw [View.canon_unit_zero hz]
  simp only [View.readAt_eq_ld, harg0.read_unread, harg1.read_unread, harg2.read_unread, harg3.read_unread, harg4.read_unread, harg5.read_unread, harg6.read_unread, harg7.read_unread, harg8.read_unread, harg9.read_unread, harg10.read_unread, harg11.read_unread, View.ld_unit_zero (S := S3200x2048) hz, View.ld_unit_zero (S := S6144x2048) hz, View.ld_unit_zero (S := S6144x3200) hz]
  sl_kernel_rfl

theorem out0_A_10_eq (c : Dev nD) (arg0 : Memref sig .tc .vmem S6144x3200 .bf16) (harg0 : arg0.IsWhole) (arg1 : Memref sig .tc .vmem S3200x2048 .bf16) (harg1 : arg1.IsWhole) (arg2 : Memref sig .tc .vmem S6144x2048 .bf16) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S6144x2048 .bf16) (harg6 : arg6.IsWhole) (arg7 : Memref sig .tc .vmem S6144x3200 .bf16) (harg7 : arg7.IsWhole) (arg8 : Memref sig .tc .vmem S3200x2048 .f32) (harg8 : arg8.IsWhole) (arg9 : Memref sig .tc .vmem S6144x3200 .fp8e4m3) (harg9 : arg9.IsWhole) (arg10 : Memref sig .tc .vmem S3200x2048 .fp8e4m3) (harg10 : arg10.IsWhole) (arg11 : Memref sig .tc .vmem S6144x2048 .fp8e5m2) (harg11 : arg11.IsWhole)
    (x0 : Vec Ideal S6144x3200 .bf16) (x1 : Vec Ideal S3200x2048 .bf16) (x2 : Vec Ideal S6144x2048 .bf16) (x3 : Vec Ideal S1 .f32) (x4 : Vec Ideal S1 .f32) (x5 : Vec Ideal S1 .f32) :
    out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = k0_pay5 (sc x4) x1 := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  rw [View.canon_unit_zero hz]
  simp only [View.readAt_eq_ld, harg0.read_unread, harg1.read_unread, harg2.read_unread, harg3.read_unread, harg4.read_unread, harg5.read_unread, harg6.read_unread, harg7.read_unread, harg8.read_unread, harg9.read_unread, harg10.read_unread, harg11.read_unread, View.ld_unit_zero (S := S3200x2048) hz, View.ld_unit_zero (S := S6144x2048) hz, View.ld_unit_zero (S := S6144x3200) hz]
  sl_kernel_rfl

theorem out0_A_11_eq (c : Dev nD) (arg0 : Memref sig .tc .vmem S6144x3200 .bf16) (harg0 : arg0.IsWhole) (arg1 : Memref sig .tc .vmem S3200x2048 .bf16) (harg1 : arg1.IsWhole) (arg2 : Memref sig .tc .vmem S6144x2048 .bf16) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S6144x2048 .bf16) (harg6 : arg6.IsWhole) (arg7 : Memref sig .tc .vmem S6144x3200 .bf16) (harg7 : arg7.IsWhole) (arg8 : Memref sig .tc .vmem S3200x2048 .f32) (harg8 : arg8.IsWhole) (arg9 : Memref sig .tc .vmem S6144x3200 .fp8e4m3) (harg9 : arg9.IsWhole) (arg10 : Memref sig .tc .vmem S3200x2048 .fp8e4m3) (harg10 : arg10.IsWhole) (arg11 : Memref sig .tc .vmem S6144x2048 .fp8e5m2) (harg11 : arg11.IsWhole)
    (x0 : Vec Ideal S6144x3200 .bf16) (x1 : Vec Ideal S3200x2048 .bf16) (x2 : Vec Ideal S6144x2048 .bf16) (x3 : Vec Ideal S1 .f32) (x4 : Vec Ideal S1 .f32) (x5 : Vec Ideal S1 .f32) :
    out0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 = k0_pay6 (sc x5) x2 := by
  unfold out0_A_11
  rw [View.read_writes_eq_canon _ _ _ (cover0_A_11 c arg0 harg0 arg1 harg1 arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  rw [View.canon_unit_zero hz]
  simp only [View.readAt_eq_ld, harg0.read_unread, harg1.read_unread, harg2.read_unread, harg3.read_unread, harg4.read_unread, harg5.read_unread, harg6.read_unread, harg7.read_unread, harg8.read_unread, harg9.read_unread, harg10.read_unread, harg11.read_unread, View.ld_unit_zero (S := S3200x2048) hz, View.ld_unit_zero (S := S6144x2048) hz, View.ld_unit_zero (S := S6144x3200) hz]
  sl_kernel_rfl

end Cert.ReferenceIdeal.Value
-- ==== Proof.Value.Parts.lean ====
module

public import proofs.«01_k».proof.Proof.Value.Scale
public import proofs.«01_k».proof.Proof.Gen.KernelIdeal.Skeleton
public import Idealize.ShloMosaic.Lib.Pipeline.Value
public import Idealize.ShloMosaic.Lib.ValueIdx

/-! What the three kernel bodies compute, in a few named parts: the maximum of a history row, the scale and
its reciprocal (`Cert.Scale`), a block's codes, a block's folded absolute maximum, and the scaled products. -/

@[expose] public section

noncomputable section

namespace Cert.KernelIdeal.Value

open Idealize.ShloMosaic Idealize.ShloMosaic.ValueIdx Cert.KernelIdeal Cert.KernelIdeal.Gen Cert.Scale

/-- The zero offsets of a two-axis block, however they are spelt. -/
theorem hz : (![0, 0] : Fin 2 → Nat) = fun _ => 0 := funext fun a => by fin_cases a <;> rfl

theorem hz1 : (![0] : Fin 1 → Nat) = fun _ => 0 := funext fun a => by fin_cases a; rfl

/-- The history's entry at row `r` and column `j`, as the kernel loads it. -/
def ent (h : Vec Ideal S3x16 .f32) (r j : Nat) (hb : ∀ a, (![r, j] : Fin 2 → Nat) a + S1x1.size a ≤ S3x16.size a) :
    EReal :=
  View.ld (Val := Elt Ideal) (e' := .f32) h (Rect.unit (s := S3x16) ![r, j] S1x1.size hb)
    (Shape.Idx.first (numel1_S1x1.symm ▸ Nat.one_pos))

theorem ent_eq (h : Vec Ideal S3x16 .f32) (r : Fin 3) (j : Fin 16)
    (hb : ∀ a, (![r.val, j.val] : Fin 2 → Nat) a + S1x1.size a ≤ S3x16.size a) :
    ent h r.val j.val hb = h (ix2 r j) := by
  unfold ent
  refine congrArg h (funext fun a => Fin.ext ?_)
  match a with
  | ⟨0, _⟩ => rfl
  | ⟨1, _⟩ => rfl

/-- The step, as the kernel loads it. -/
def stepOf (s : Vec Ideal S1 .i32) : BitVec 32 :=
  View.ld (Val := Elt Ideal) (e' := .i32) s (Rect.unit (s := S1) ![0] S1.size inb_S1_S1_0)
    (Shape.Idx.first (numel1_S1.symm ▸ Nat.one_pos))

theorem stepOf_eq (s : Vec Ideal S1 .i32) : stepOf s = s (ix1 0) := by
  unfold stepOf
  refine congrArg s (funext fun a => Fin.ext ?_)
  match a with
  | ⟨0, _⟩ => rfl

/-- A load of one history entry is in bounds. -/
theorem inb (r : Fin 3) (j : Fin 16) : ∀ a, (![r.val, j.val] : Fin 2 → Nat) a + S1x1.size a ≤ S3x16.size a := by
  intro a
  match a with
  | ⟨0, _⟩ => exact r.isLt
  | ⟨1, _⟩ => exact j.isLt

/-- The maximum of a history row, in the order the kernel takes it. -/
def rowMax (h : Vec Ideal S3x16 .f32) (r : Fin 3) : EReal :=
  Scalar.maximumf (F := Ideal) (φ := .f32) (Scalar.maximumf (F := Ideal) (φ := .f32) (Scalar.maximumf (F := Ideal) (φ := .f32) (Scalar.maximumf (F := Ideal) (φ := .f32) (Scalar.maximumf (F := Ideal) (φ := .f32)
    (Scalar.maximumf (F := Ideal) (φ := .f32) (Scalar.maximumf (F := Ideal) (φ := .f32) (Scalar.maximumf (F := Ideal) (φ := .f32) (Scalar.maximumf (F := Ideal) (φ := .f32) (Scalar.maximumf (F := Ideal) (φ := .f32)
    (Scalar.maximumf (F := Ideal) (φ := .f32) (Scalar.maximumf (F := Ideal) (φ := .f32) (Scalar.maximumf (F := Ideal) (φ := .f32) (Scalar.maximumf (F := Ideal) (φ := .f32) (Scalar.maximumf (F := Ideal) (φ := .f32)
    (ent h r.val 0 (inb r 0)) (ent h r.val 1 (inb r 1))) (ent h r.val 2 (inb r 2))) (ent h r.val 3 (inb r 3)))
    (ent h r.val 4 (inb r 4))) (ent h r.val 5 (inb r 5))) (ent h r.val 6 (inb r 6))) (ent h r.val 7 (inb r 7)))
    (ent h r.val 8 (inb r 8))) (ent h r.val 9 (inb r 9))) (ent h r.val 10 (inb r 10))) (ent h r.val 11 (inb r 11)))
    (ent h r.val 12 (inb r 12))) (ent h r.val 13 (inb r 13))) (ent h r.val 14 (inb r 14))) (ent h r.val 15 (inb r 15))

/-- The magnitude whose exponent gives the scale: `|max row * c|`, `c` the word of one over the format's largest number. -/
def mag (h : Vec Ideal S3x16 .f32) (r : Fin 3) (c : BitVec 32) : EReal :=
  Scalar.absf (F := Ideal) (φ := .f32) (Scalar.mulf (F := Ideal) (φ := .f32) (rowMax h r) (Scalar.ofBits (F := Ideal) .f32 c))

/-- The three magnitudes: of `x` (row 0), of the weight (row 1), of `dy` (row 2). -/
def bx (h : Vec Ideal S3x16 .f32) : EReal := mag h 0 0x3B124925#32
def bw (h : Vec Ideal S3x16 .f32) : EReal := mag h 1 0x3B124925#32
def bd (h : Vec Ideal S3x16 .f32) : EReal := mag h 2 0x37924925#32

/-- A block's e4m3 codes: the values times the reciprocal scale, clipped to ±448. -/
def codes43 {s : Shape} (q : EReal) (v : FVec Ideal s .bf16) : FVec Ideal s .fp8e4m3 :=
  truncf (F := Ideal) .fp8e4m3 (minimumf (F := Ideal) (broadcast s (Scalar.ofBits (F := Ideal) .bf16 0x43E0#16))
    (maximumf (F := Ideal) (broadcast s (Scalar.ofBits (F := Ideal) .bf16 0xC3E0#16))
      (mulf (F := Ideal) v (broadcast s (Scalar.truncf (F := Ideal) (φ := .f32) .bf16 bitsLt_bf16_f32 q))))) bitsLt_fp8e4m3_bf16

/-- A block's e5m2 codes: the values times the reciprocal scale, clipped to ±57344. -/
def codes52 {s : Shape} (q : EReal) (v : FVec Ideal s .bf16) : FVec Ideal s .fp8e5m2 :=
  truncf (F := Ideal) .fp8e5m2 (minimumf (F := Ideal) (broadcast s (Scalar.ofBits (F := Ideal) .bf16 0x4760#16))
    (maximumf (F := Ideal) (broadcast s (Scalar.ofBits (F := Ideal) .bf16 0xC760#16))
      (mulf (F := Ideal) v (broadcast s (Scalar.truncf (F := Ideal) (φ := .f32) .bf16 bitsLt_bf16_f32 q))))) bitsLt_fp8e5m2_bf16

/-- The folded absolute maximum of a weight block. -/
def foldW (v : FVec Ideal S320x2048 .bf16) : FVec Ideal S16x128 .bf16 := k0_pay1 (k0_pay12 v) (k0_pay13 v) (k0_pay14 v)

/-- The folded absolute maximum of a block of `x` rows. -/
def foldX (v : FVec Ideal S256x3200 .bf16) : FVec Ideal S16x128 .bf16 := k1_pay39 (k1_pay33 v)

/-- The folded absolute maximum of a block of `dy` rows. -/
def foldD (v : FVec Ideal S256x2048 .bf16) : FVec Ideal S16x128 .bf16 :=
  k1_pay1 (k1_pay40 (k1_pay34 v)) (k1_pay41 (k1_pay34 v)) (k1_pay42 (k1_pay34 v))

/-- The running absolute maximum joined with a block's. -/
def join (a v : FVec Ideal S16x128 .bf16) : FVec Ideal S16x128 .bf16 :=
  maximumf (F := Ideal) (shapeCast S16x128 a shapeCasts_S16x128_S16x128) v

/-- The scaled forward product of a block of rows. -/
def prodY (h : Vec Ideal S3x16 .f32) (xc : FVec Ideal S256x3200 .fp8e4m3) (wc : FVec Ideal S3200x2048 .fp8e4m3) :
    FVec Ideal S256x2048 .bf16 :=
  truncf (F := Ideal) .bf16 (mulf (F := Ideal) (matmul (F := Ideal) dot_S256x3200_S3200x2048_S256x2048_1_0_0_1_n_n none xc
      (shapeCast S3200x2048 wc shapeCasts_S3200x2048_S3200x2048) (constant S256x2048 .f32 0x00000000#32))
    (broadcast S256x2048 (Scalar.mulf (F := Ideal) (φ := .f32) (scale (bx h)) (scale (bw h))))) bitsLt_bf16_f32

/-- The scaled input gradient of a block of rows. -/
def prodX (h : Vec Ideal S3x16 .f32) (dc : FVec Ideal S256x2048 .fp8e5m2) (wc : FVec Ideal S3200x2048 .fp8e4m3) :
    FVec Ideal S256x3200 .bf16 :=
  truncf (F := Ideal) .bf16 (mulf (F := Ideal) (matmul (F := Ideal) dot_S256x2048_S3200x2048_S256x3200_1_1_0_0_n_n none dc
      (shapeCast S3200x2048 wc shapeCasts_S3200x2048_S3200x2048) (constant S256x3200 .f32 0x00000000#32))
    (broadcast S256x3200 (Scalar.mulf (F := Ideal) (φ := .f32) (scale (bd h)) (scale (bw h))))) bitsLt_bf16_f32

/-- The scaled weight gradient of a block of columns. -/
def prodW (h : Vec Ideal S3x16 .f32) (xc : FVec Ideal S6144x640 .fp8e4m3) (dc : FVec Ideal S6144x2048 .fp8e5m2) :
    FVec Ideal S640x2048 .f32 :=
  mulf (F := Ideal) (matmul (F := Ideal) dot_S6144x640_S6144x2048_S640x2048_0_0_1_1_n_n none
      (shapeCast S6144x640 xc shapeCasts_S6144x640_S6144x640) (shapeCast S6144x2048 dc shapeCasts_S6144x2048_S6144x2048)
      (constant S640x2048 .f32 0x00000000#32))
    (broadcast S640x2048 (Scalar.mulf (F := Ideal) (φ := .f32) (scale (bx h)) (scale (bd h))))

end Cert.KernelIdeal.Value
-- ==== Proof.Value.Whole.lean ====
module

public import proofs.«01_k».proof.Proof.Value.Parts
public import Idealize.ShloMosaic.Lib.Pointwise

/-! The three scaled products, entry by entry, of whole arrays and of blocks. -/

@[expose] public section

set_option maxRecDepth 65536

noncomputable section

namespace Cert.KernelIdeal.Value

open Idealize.ShloMosaic Cert.KernelIdeal Cert.KernelIdeal.Gen Cert.Scale

/-- The forward product of code arrays, scaled. -/
def wholeY {M : Nat} (q : EReal) (xc : (⟨2, ![M, 3200]⟩ : Shape).Idx → EReal) (wc : S3200x2048.Idx → EReal) : (⟨2, ![M, 2048]⟩ : Shape).Idx → EReal :=
  fun i => (∑ k : Fin 3200, xc (ix2 (i 0) k) * wc (ix2 k (i 1))) * q

/-- The input gradient of code arrays, scaled. -/
def wholeX {M : Nat} (q : EReal) (dc : (⟨2, ![M, 2048]⟩ : Shape).Idx → EReal) (wc : S3200x2048.Idx → EReal) : (⟨2, ![M, 3200]⟩ : Shape).Idx → EReal :=
  fun i => (∑ k : Fin 2048, dc (ix2 (i 0) k) * wc (ix2 (i 1) k)) * q

/-- The weight gradient of code arrays, scaled. -/
def wholeW {M : Nat} (q : EReal) (xc : (⟨2, ![6144, M]⟩ : Shape).Idx → EReal) (dc : S6144x2048.Idx → EReal) : (⟨2, ![M, 2048]⟩ : Shape).Idx → EReal :=
  fun i => (∑ k : Fin 6144, xc (ix2 k (i 0)) * dc (ix2 k (i 1))) * q

/-- A block's forward product, entry by entry. -/
theorem prodY_eq (h : Vec Ideal S3x16 .f32) (xc : FVec Ideal S256x3200 .fp8e4m3) (wc : FVec Ideal S3200x2048 .fp8e4m3) :
    prodY h xc wc = wholeY (scale (bx h) * scale (bw h)) xc wc := by
  funext i
  unfold prodY wholeY
  rw [shapeCast_self]
  simp only [pointwise]
  exact congrArg (· * _) (zero_add _)

/-- A block's input gradient, entry by entry. -/
theorem prodX_eq (h : Vec Ideal S3x16 .f32) (dc : FVec Ideal S256x2048 .fp8e5m2) (wc : FVec Ideal S3200x2048 .fp8e4m3) :
    prodX h dc wc = wholeX (scale (bd h) * scale (bw h)) dc wc := by
  funext i
  unfold prodX wholeX
  rw [shapeCast_self]
  simp only [pointwise]
  exact congrArg (· * _) (zero_add _)

/-- A block's weight gradient, entry by entry. -/
theorem prodW_eq (h : Vec Ideal S3x16 .f32) (xc : FVec Ideal S6144x640 .fp8e4m3) (dc : FVec Ideal S6144x2048 .fp8e5m2) :
    prodW h xc dc = wholeW (scale (bx h) * scale (bd h)) xc dc := by
  funext i
  unfold prodW wholeW
  rw [shapeCast_self, shapeCast_self]
  simp only [pointwise]
  exact congrArg (· * _) (zero_add _)

end Cert.KernelIdeal.Value
-- ==== Proof.Value.RefPay.lean ====
module

public import proofs.«01_k».proof.Proof.Value.RefOut
public import proofs.«01_k».proof.Proof.Value.Whole

/-! The reference call's formulas are the kernel's: codes clipped at the same bounds, and products scaled alike. -/

@[expose] public section

set_option maxRecDepth 65536

noncomputable section

namespace Cert.ReferenceIdeal.Value

open Idealize.ShloMosaic Cert.ReferenceIdeal Cert.ReferenceIdeal.Gen Cert.Scale
open Cert.KernelIdeal.Value (codes43 codes52 wholeY wholeX wholeW)

/-- The clipping bounds and one are the same numbers in both formats. -/
theorem one_f32 : (FloatOps.ofBits (F := Ideal) .f32 0x3F800000#32 : EReal) = 1 := by
  show Ideal.ieee 8 23 0x3F800000#32 = 1
  unfold Ideal.ieee
  simp only [show ((0x3F800000#32).extractLsb' (8 + 23) 1 == 1#1) = false from by decide,
    show ((0x3F800000#32).extractLsb' 23 8).toNat = 127 from by decide, show ((0x3F800000#32).extractLsb' 0 23).toNat = 0 from by decide]
  norm_num

theorem hi43 : (FloatOps.ofBits (F := Ideal) .bf16 0x43E0#16 : EReal) = FloatOps.ofBits (F := Ideal) .f32 0x43E00000#32 := by
  show Ideal.ieee 8 7 0x43E0#16 = Ideal.ieee 8 23 0x43E00000#32
  unfold Ideal.ieee
  simp only [show ((0x43E00000#32).extractLsb' (8 + 23) 1 == 1#1) = false from by decide,
    show ((0x43E00000#32).extractLsb' 23 8).toNat = 135 from by decide, show ((0x43E00000#32).extractLsb' 0 23).toNat = 0x600000 from by decide,
    show ((0x43E0#16).extractLsb' (8 + 7) 1 == 1#1) = false from by decide,
    show ((0x43E0#16).extractLsb' 7 8).toNat = 135 from by decide, show ((0x43E0#16).extractLsb' 0 7).toNat = 0x60 from by decide]
  norm_num

theorem lo43 : (FloatOps.ofBits (F := Ideal) .bf16 0xC3E0#16 : EReal) = FloatOps.ofBits (F := Ideal) .f32 0xC3E00000#32 := by
  show Ideal.ieee 8 7 0xC3E0#16 = Ideal.ieee 8 23 0xC3E00000#32
  unfold Ideal.ieee
  simp only [show ((0xC3E00000#32).extractLsb' (8 + 23) 1 == 1#1) = true from by decide,
    show ((0xC3E00000#32).extractLsb' 23 8).toNat = 135 from by decide, show ((0xC3E00000#32).extractLsb' 0 23).toNat = 0x600000 from by decide,
    show ((0xC3E0#16).extractLsb' (8 + 7) 1 == 1#1) = true from by decide,
    show ((0xC3E0#16).extractLsb' 7 8).toNat = 135 from by decide, show ((0xC3E0#16).extractLsb' 0 7).toNat = 0x60 from by decide]
  norm_num

theorem hi52 : (FloatOps.ofBits (F := Ideal) .bf16 0x4760#16 : EReal) = FloatOps.ofBits (F := Ideal) .f32 0x47600000#32 := by
  show Ideal.ieee 8 7 0x4760#16 = Ideal.ieee 8 23 0x47600000#32
  unfold Ideal.ieee
  simp only [show ((0x47600000#32).extractLsb' (8 + 23) 1 == 1#1) = false from by decide,
    show ((0x47600000#32).extractLsb' 23 8).toNat = 142 from by decide, show ((0x47600000#32).extractLsb' 0 23).toNat = 0x600000 from by decide,
    show ((0x4760#16).extractLsb' (8 + 7) 1 == 1#1) = false from by decide,
    show ((0x4760#16).extractLsb' 7 8).toNat = 142 from by decide, show ((0x4760#16).extractLsb' 0 7).toNat = 0x60 from by decide]
  norm_num

theorem lo52 : (FloatOps.ofBits (F := Ideal) .bf16 0xC760#16 : EReal) = FloatOps.ofBits (F := Ideal) .f32 0xC7600000#32 := by
  show Ideal.ieee 8 7 0xC760#16 = Ideal.ieee 8 23 0xC7600000#32
  unfold Ideal.ieee
  simp only [show ((0xC7600000#32).extractLsb' (8 + 23) 1 == 1#1) = true from by decide,
    show ((0xC7600000#32).extractLsb' 23 8).toNat = 142 from by decide, show ((0xC7600000#32).extractLsb' 0 23).toNat = 0x600000 from by decide,
    show ((0xC760#16).extractLsb' (8 + 7) 1 == 1#1) = true from by decide,
    show ((0xC760#16).extractLsb' 7 8).toNat = 142 from by decide, show ((0xC760#16).extractLsb' 0 7).toNat = 0x60 from by decide]
  norm_num

/-- The `x` codes. -/
theorem pay4_eq (s : EReal) (v : FVec Ideal S6144x3200 .bf16) :
    k0_pay4 (F := Ideal) s v = codes43 (s := S6144x3200) (Ideal.div 1 s) v := by
  unfold k0_pay4
  dsimp only
  rw [shapeCast_self]
  funext i
  show min (FloatOps.ofBits (F := Ideal) .f32 0x43E00000#32 : EReal) (max (FloatOps.ofBits (F := Ideal) .f32 0xC3E00000#32)
    (v i * Ideal.div (FloatOps.ofBits (F := Ideal) .f32 0x3F800000#32) s)) = min (FloatOps.ofBits (F := Ideal) .bf16 0x43E0#16 : EReal) (max (FloatOps.ofBits (F := Ideal) .bf16 0xC3E0#16)
    (v i * Ideal.div 1 s))
  rw [hi43, lo43, one_f32]

/-- The weight codes. -/
theorem pay5_eq (s : EReal) (v : FVec Ideal S3200x2048 .bf16) :
    k0_pay5 (F := Ideal) s v = codes43 (s := S3200x2048) (Ideal.div 1 s) v := by
  unfold k0_pay5
  dsimp only
  funext i
  show min (FloatOps.ofBits (F := Ideal) .f32 0x43E00000#32 : EReal) (max (FloatOps.ofBits (F := Ideal) .f32 0xC3E00000#32)
    (v i * Ideal.div (FloatOps.ofBits (F := Ideal) .f32 0x3F800000#32) s)) = min (FloatOps.ofBits (F := Ideal) .bf16 0x43E0#16 : EReal) (max (FloatOps.ofBits (F := Ideal) .bf16 0xC3E0#16)
    (v i * Ideal.div 1 s))
  rw [hi43, lo43, one_f32]

/-- The `dy` codes. -/
theorem pay6_eq (s : EReal) (v : FVec Ideal S6144x2048 .bf16) :
    k0_pay6 (F := Ideal) s v = codes52 (s := S6144x2048) (Ideal.div 1 s) v := by
  unfold k0_pay6
  dsimp only
  rw [shapeCast_self]
  funext i
  show min (FloatOps.ofBits (F := Ideal) .f32 0x47600000#32 : EReal) (max (FloatOps.ofBits (F := Ideal) .f32 0xC7600000#32)
    (v i * Ideal.div (FloatOps.ofBits (F := Ideal) .f32 0x3F800000#32) s)) = min (FloatOps.ofBits (F := Ideal) .bf16 0x4760#16 : EReal) (max (FloatOps.ofBits (F := Ideal) .bf16 0xC760#16)
    (v i * Ideal.div 1 s))
  rw [hi52, lo52, one_f32]

/-- The forward product. -/
theorem pay1_eq (a b : EReal) (x : FVec Ideal S6144x3200 .bf16) (w : FVec Ideal S3200x2048 .bf16) :
    k0_pay1 (F := Ideal) (k0_pay7 a b x w) (k0_pay10 (F := Ideal) a b)
      = wholeY (M := 6144) (a * b) (codes43 (s := S6144x3200) (Ideal.div 1 a) x) (codes43 (s := S3200x2048) (Ideal.div 1 b) w) := by
  funext i
  unfold k0_pay1 k0_pay7 k0_pay10 wholeY
  rw [pay4_eq, pay5_eq]
  dsimp only
  generalize codes43 (s := S6144x3200) (Ideal.div 1 a) x = xc
  generalize codes43 (s := S3200x2048) (Ideal.div 1 b) w = wc
  simp only [pointwise]
  exact congrArg (· * _) (zero_add _)

/-- The input gradient. -/
theorem pay2_eq (b d : EReal) (w : FVec Ideal S3200x2048 .bf16) (y : FVec Ideal S6144x2048 .bf16) :
    k0_pay2 (F := Ideal) b d (k0_pay8 b d w y)
      = wholeX (M := 6144) (d * b) (codes52 (s := S6144x2048) (Ideal.div 1 d) y) (codes43 (s := S3200x2048) (Ideal.div 1 b) w) := by
  funext i
  unfold k0_pay2 k0_pay8 wholeX
  rw [pay6_eq, pay5_eq]
  dsimp only
  generalize codes52 (s := S6144x2048) (Ideal.div 1 d) y = dc
  generalize codes43 (s := S3200x2048) (Ideal.div 1 b) w = wc
  simp only [pointwise]
  exact congrArg (· * _) (zero_add _)

/-- The weight gradient. -/
theorem pay3_eq (a d : EReal) (x : FVec Ideal S6144x3200 .bf16) (y : FVec Ideal S6144x2048 .bf16) :
    k0_pay3 (F := Ideal) a d (k0_pay9 a d x y)
      = wholeW (M := 3200) (a * d) (codes43 (s := S6144x3200) (Ideal.div 1 a) x) (codes52 (s := S6144x2048) (Ideal.div 1 d) y) := by
  funext i
  unfold k0_pay3 k0_pay9 wholeW
  rw [pay4_eq, pay6_eq]
  dsimp only
  generalize codes43 (s := S6144x3200) (Ideal.div 1 a) x = xc
  generalize codes52 (s := S6144x2048) (Ideal.div 1 d) y = dc
  simp only [pointwise]
  exact congrArg (· * _) (zero_add _)

end Cert.ReferenceIdeal.Value
-- ==== Proof.Value.RefArr.lean ====
module

public import proofs.«01_k».proof.Proof.Value.RefPay

/-! The arrays the reference's one call leaves, as functions of the arrays and scales it is given. -/

@[expose] public section

set_option maxRecDepth 65536

noncomputable section

namespace Cert.ReferenceIdeal.Value

open Idealize.ShloMosaic Idealize.ShloMosaic.TcCoe Idealize.SL.Sem
open Cert.ReferenceIdeal Cert.ReferenceIdeal.Gen Cert.Scale
open Cert.KernelIdeal.Value (codes43 codes52 wholeY wholeX wholeW)

variable (m : (ℓ : Loc nD τ sig) → Buf (Elt Ideal) ℓ)

/-- Input window 0's block is the whole array. -/
theorem iblk_0_eq (c : Dev nD) (t : Fin cfg0.N) : (iblk m c 0 t : Vec Ideal S6144x3200 .bf16) = V m c main_v57 := by
  have hz' : (fun a => win0_0.index t a * main_v57.ty.shape.size a) = fun _ => 0 := funext fun a => by
    fin_cases a <;> exact Nat.zero_mul _
  exact Memref.read_access_unit_zero (Elt Ideal) main_v57 hz' (fun a => by rw [congrFun hz' a]; simp) (V m c main_v57)

/-- Input window 1's block is the whole array. -/
theorem iblk_1_eq (c : Dev nD) (t : Fin cfg0.N) : (iblk m c 1 t : Vec Ideal S3200x2048 .bf16) = V m c main_arg1 := by
  have hz' : (fun a => win0_1.index t a * main_arg1.ty.shape.size a) = fun _ => 0 := funext fun a => by
    fin_cases a <;> exact Nat.zero_mul _
  exact Memref.read_access_unit_zero (Elt Ideal) main_arg1 hz' (fun a => by rw [congrFun hz' a]; simp) (V m c main_arg1)

/-- Input window 2's block is the whole array. -/
theorem iblk_2_eq (c : Dev nD) (t : Fin cfg0.N) : (iblk m c 2 t : Vec Ideal S6144x2048 .bf16) = V m c main_v58 := by
  have hz' : (fun a => win0_2.index t a * main_v58.ty.shape.size a) = fun _ => 0 := funext fun a => by
    fin_cases a <;> exact Nat.zero_mul _
  exact Memref.read_access_unit_zero (Elt Ideal) main_v58 hz' (fun a => by rw [congrFun hz' a]; simp) (V m c main_v58)

/-- Input window 3's block is the whole array. -/
theorem iblk_3_eq (c : Dev nD) (t : Fin cfg0.N) : (iblk m c 3 t : Vec Ideal S1 .f32) = V m c main_v12 := by
  have hz' : (fun a => win0_3.index t a * main_v12.ty.shape.size a) = fun _ => 0 := funext fun a => by
    fin_cases a <;> exact Nat.zero_mul _
  exact Memref.read_access_unit_zero (Elt Ideal) main_v12 hz' (fun a => by rw [congrFun hz' a]; simp) (V m c main_v12)

/-- Input window 4's block is the whole array. -/
theorem iblk_4_eq (c : Dev nD) (t : Fin cfg0.N) : (iblk m c 4 t : Vec Ideal S1 .f32) = V m c main_v24 := by
  have hz' : (fun a => win0_4.index t a * main_v24.ty.shape.size a) = fun _ => 0 := funext fun a => by
    fin_cases a <;> exact Nat.zero_mul _
  exact Memref.read_access_unit_zero (Elt Ideal) main_v24 hz' (fun a => by rw [congrFun hz' a]; simp) (V m c main_v24)

/-- Input window 5's block is the whole array. -/
theorem iblk_5_eq (c : Dev nD) (t : Fin cfg0.N) : (iblk m c 5 t : Vec Ideal S1 .f32) = V m c main_v36 := by
  have hz' : (fun a => win0_5.index t a * main_v36.ty.shape.size a) = fun _ => 0 := funext fun a => by
    fin_cases a <;> exact Nat.zero_mul _
  exact Memref.read_access_unit_zero (Elt Ideal) main_v36 hz' (fun a => by rw [congrFun hz' a]; simp) (V m c main_v36)

/-- The three scales the call is given. -/
def s0 (c : Dev nD) : EReal := (V m c main_v12 : Vec Ideal S1 .f32) (ValueIdx.ix1 0)
def s1 (c : Dev nD) : EReal := (V m c main_v24 : Vec Ideal S1 .f32) (ValueIdx.ix1 0)
def s2 (c : Dev nD) : EReal := (V m c main_v36 : Vec Ideal S1 .f32) (ValueIdx.ix1 0)

/-- The codes of the three arrays it is given. -/
def rX (c : Dev nD) : FVec Ideal S6144x3200 .fp8e4m3 := codes43 (s := S6144x3200) (Ideal.div 1 (s0 m c)) (V m c main_v57)
def rW (c : Dev nD) : FVec Ideal S3200x2048 .fp8e4m3 := codes43 (s := S3200x2048) (Ideal.div 1 (s1 m c)) (V m c main_arg1)
def rD (c : Dev nD) : FVec Ideal S6144x2048 .fp8e5m2 := codes52 (s := S6144x2048) (Ideal.div 1 (s2 m c)) (V m c main_v58)

/-- What the one grid point leaves: the y. -/
theorem left_6 (c : Dev nD) (t : Fin cfg0.N) : (dats m 0 c).after 6 t = wholeY (M := 6144) (s0 m c * s1 m c) (rX m c) (rW m c) := by
  rw [after0_6]
  unfold outsAt0
  dsimp only
  rw [out0_A_6_eq, iblk_0_eq, iblk_1_eq, iblk_3_eq, iblk_4_eq]
  simp only [sc_eq]
  exact pay1_eq _ _ _ _

/-- The y array. -/
theorem arr_6 (c : Dev nD) : (dats m 0 c).arrAt 6 cfg0.N = wholeY (M := 6144) (s0 m c * s1 m c) (rX m c) (rW m c) := by
  have hN : cfg0.N = 1 := N_0
  have hz' : ∀ t, (fun a => win0_6.index t a * main_v59_0.ty.shape.size a) = fun _ => 0 := fun t => funext fun a => by
    fin_cases a <;> exact Nat.zero_mul _
  generalize hG : wholeY (M := 6144) (s0 m c * s1 m c) (rX m c) (rW m c) = G
  refine (dats m 0 c).arrAt_eq_of_cover 6 G (fun t _ => ?_) (fun i => ⟨⟨0, by omega⟩, flush0_6 _, ?_⟩)
  · show (cfg0.win 6).cut (grid0.coords t) ((dats m 0 c).after 6 t) = _
    rw [left_6, hG]
    exact (Memref.read_access_unit_zero (Elt Ideal) main_v59_0 (hz' t) (fun a => by rw [congrFun (hz' t) a]; simp) G).symm
  · have h : 0 < cfg0.N := by omega
    show i ∈ ((View.whole main_v59_0).slice (win0_6.rect ⟨0, h⟩)).set
    rw [View.set_slice_whole, Rect.mem_set_unit]
    intro a
    match a with
    | ⟨0, _⟩ =>
      show 0 * 6144 ≤ (i 0 : Nat) ∧ (i 0 : Nat) < 0 * 6144 + 6144
      have h0 : (i 0 : Nat) < 6144 := (i 0).isLt
      omega
    | ⟨1, _⟩ =>
      show 0 * 2048 ≤ (i 1 : Nat) ∧ (i 1 : Nat) < 0 * 2048 + 2048
      have h0 : (i 1 : Nat) < 2048 := (i 1).isLt
      omega

/-- What the one grid point leaves: the input gradient. -/
theorem left_7 (c : Dev nD) (t : Fin cfg0.N) : (dats m 0 c).after 7 t = wholeX (M := 6144) (s2 m c * s1 m c) (rD m c) (rW m c) := by
  rw [after0_7]
  unfold outsAt0
  dsimp only
  rw [out0_A_7_eq, iblk_1_eq, iblk_2_eq, iblk_4_eq, iblk_5_eq]
  simp only [sc_eq]
  exact pay2_eq _ _ _ _

/-- The input gradient array. -/
theorem arr_7 (c : Dev nD) : (dats m 0 c).arrAt 7 cfg0.N = wholeX (M := 6144) (s2 m c * s1 m c) (rD m c) (rW m c) := by
  have hN : cfg0.N = 1 := N_0
  have hz' : ∀ t, (fun a => win0_7.index t a * main_v59_1.ty.shape.size a) = fun _ => 0 := fun t => funext fun a => by
    fin_cases a <;> exact Nat.zero_mul _
  generalize hG : wholeX (M := 6144) (s2 m c * s1 m c) (rD m c) (rW m c) = G
  refine (dats m 0 c).arrAt_eq_of_cover 7 G (fun t _ => ?_) (fun i => ⟨⟨0, by omega⟩, flush0_7 _, ?_⟩)
  · show (cfg0.win 7).cut (grid0.coords t) ((dats m 0 c).after 7 t) = _
    rw [left_7, hG]
    exact (Memref.read_access_unit_zero (Elt Ideal) main_v59_1 (hz' t) (fun a => by rw [congrFun (hz' t) a]; simp) G).symm
  · have h : 0 < cfg0.N := by omega
    show i ∈ ((View.whole main_v59_1).slice (win0_7.rect ⟨0, h⟩)).set
    rw [View.set_slice_whole, Rect.mem_set_unit]
    intro a
    match a with
    | ⟨0, _⟩ =>
      show 0 * 6144 ≤ (i 0 : Nat) ∧ (i 0 : Nat) < 0 * 6144 + 6144
      have h0 : (i 0 : Nat) < 6144 := (i 0).isLt
      omega
    | ⟨1, _⟩ =>
      show 0 * 3200 ≤ (i 1 : Nat) ∧ (i 1 : Nat) < 0 * 3200 + 3200
      have h0 : (i 1 : Nat) < 3200 := (i 1).isLt
      omega

/-- What the one grid point leaves: the weight gradient. -/
theorem left_8 (c : Dev nD) (t : Fin cfg0.N) : (dats m 0 c).after 8 t = wholeW (M := 3200) (s0 m c * s2 m c) (rX m c) (rD m c) := by
  rw [after0_8]
  unfold outsAt0
  dsimp only
  rw [out0_A_8_eq, iblk_0_eq, iblk_2_eq, iblk_3_eq, iblk_5_eq]
  simp only [sc_eq]
  exact pay3_eq _ _ _ _

/-- The weight gradient array. -/
theorem arr_8 (c : Dev nD) : (dats m 0 c).arrAt 8 cfg0.N = wholeW (M := 3200) (s0 m c * s2 m c) (rX m c) (rD m c) := by
  have hN : cfg0.N = 1 := N_0
  have hz' : ∀ t, (fun a => win0_8.index t a * main_v59_2.ty.shape.size a) = fun _ => 0 := fun t => funext fun a => by
    fin_cases a <;> exact Nat.zero_mul _
  generalize hG : wholeW (M := 3200) (s0 m c * s2 m c) (rX m c) (rD m c) = G
  refine (dats m 0 c).arrAt_eq_of_cover 8 G (fun t _ => ?_) (fun i => ⟨⟨0, by omega⟩, flush0_8 _, ?_⟩)
  · show (cfg0.win 8).cut (grid0.coords t) ((dats m 0 c).after 8 t) = _
    rw [left_8, hG]
    exact (Memref.read_access_unit_zero (Elt Ideal) main_v59_2 (hz' t) (fun a => by rw [congrFun (hz' t) a]; simp) G).symm
  · have h : 0 < cfg0.N := by omega
    show i ∈ ((View.whole main_v59_2).slice (win0_8.rect ⟨0, h⟩)).set
    rw [View.set_slice_whole, Rect.mem_set_unit]
    intro a
    match a with
    | ⟨0, _⟩ =>
      show 0 * 3200 ≤ (i 0 : Nat) ∧ (i 0 : Nat) < 0 * 3200 + 3200
      have h0 : (i 0 : Nat) < 3200 := (i 0).isLt
      omega
    | ⟨1, _⟩ =>
      show 0 * 2048 ≤ (i 1 : Nat) ∧ (i 1 : Nat) < 0 * 2048 + 2048
      have h0 : (i 1 : Nat) < 2048 := (i 1).isLt
      omega

/-- What the one grid point leaves: the codes of `x`. -/
theorem left_9 (c : Dev nD) (t : Fin cfg0.N) : (dats m 0 c).after 9 t = rX m c := by
  rw [after0_9]
  unfold outsAt0
  dsimp only
  rw [out0_A_9_eq, iblk_0_eq, iblk_3_eq]
  simp only [sc_eq]
  exact pay4_eq _ _

/-- The codes of `x` array. -/
theorem arr_9 (c : Dev nD) : (dats m 0 c).arrAt 9 cfg0.N = rX m c := by
  have hN : cfg0.N = 1 := N_0
  have hz' : ∀ t, (fun a => win0_9.index t a * main_v59_3.ty.shape.size a) = fun _ => 0 := fun t => funext fun a => by
    fin_cases a <;> exact Nat.zero_mul _
  generalize hG : rX m c = G
  refine (dats m 0 c).arrAt_eq_of_cover 9 G (fun t _ => ?_) (fun i => ⟨⟨0, by omega⟩, flush0_9 _, ?_⟩)
  · show (cfg0.win 9).cut (grid0.coords t) ((dats m 0 c).after 9 t) = _
    rw [left_9, hG]
    exact (Memref.read_access_unit_zero (Elt Ideal) main_v59_3 (hz' t) (fun a => by rw [congrFun (hz' t) a]; simp) G).symm
  · have h : 0 < cfg0.N := by omega
    show i ∈ ((View.whole main_v59_3).slice (win0_9.rect ⟨0, h⟩)).set
    rw [View.set_slice_whole, Rect.mem_set_unit]
    intro a
    match a with
    | ⟨0, _⟩ =>
      show 0 * 6144 ≤ (i 0 : Nat) ∧ (i 0 : Nat) < 0 * 6144 + 6144
      have h0 : (i 0 : Nat) < 6144 := (i 0).isLt
      omega
    | ⟨1, _⟩ =>
      show 0 * 3200 ≤ (i 1 : Nat) ∧ (i 1 : Nat) < 0 * 3200 + 3200
      have h0 : (i 1 : Nat) < 3200 := (i 1).isLt
      omega

/-- What the one grid point leaves: the weight codes. -/
theorem left_10 (c : Dev nD) (t : Fin cfg0.N) : (dats m 0 c).after 10 t = rW m c := by
  rw [after0_10]
  unfold outsAt0
  dsimp only
  rw [out0_A_10_eq, iblk_1_eq, iblk_4_eq]
  simp only [sc_eq]
  exact pay5_eq _ _

/-- The weight codes array. -/
theorem arr_10 (c : Dev nD) : (dats m 0 c).arrAt 10 cfg0.N = rW m c := by
  have hN : cfg0.N = 1 := N_0
  have hz' : ∀ t, (fun a => win0_10.index t a * main_v59_4.ty.shape.size a) = fun _ => 0 := fun t => funext fun a => by
    fin_cases a <;> exact Nat.zero_mul _
  generalize hG : rW m c = G
  refine (dats m 0 c).arrAt_eq_of_cover 10 G (fun t _ => ?_) (fun i => ⟨⟨0, by omega⟩, flush0_10 _, ?_⟩)
  · show (cfg0.win 10).cut (grid0.coords t) ((dats m 0 c).after 10 t) = _
    rw [left_10, hG]
    exact (Memref.read_access_unit_zero (Elt Ideal) main_v59_4 (hz' t) (fun a => by rw [congrFun (hz' t) a]; simp) G).symm
  · have h : 0 < cfg0.N := by omega
    show i ∈ ((View.whole main_v59_4).slice (win0_10.rect ⟨0, h⟩)).set
    rw [View.set_slice_whole, Rect.mem_set_unit]
    intro a
    match a with
    | ⟨0, _⟩ =>
      show 0 * 3200 ≤ (i 0 : Nat) ∧ (i 0 : Nat) < 0 * 3200 + 3200
      have h0 : (i 0 : Nat) < 3200 := (i 0).isLt
      omega
    | ⟨1, _⟩ =>
      show 0 * 2048 ≤ (i 1 : Nat) ∧ (i 1 : Nat) < 0 * 2048 + 2048
      have h0 : (i 1 : Nat) < 2048 := (i 1).isLt
      omega

/-- What the one grid point leaves: the codes of `dy`. -/
theorem left_11 (c : Dev nD) (t : Fin cfg0.N) : (dats m 0 c).after 11 t = rD m c := by
  rw [after0_11]
  unfold outsAt0
  dsimp only
  rw [out0_A_11_eq, iblk_2_eq, iblk_5_eq]
  simp only [sc_eq]
  exact pay6_eq _ _

/-- The codes of `dy` array. -/
theorem arr_11 (c : Dev nD) : (dats m 0 c).arrAt 11 cfg0.N = rD m c := by
  have hN : cfg0.N = 1 := N_0
  have hz' : ∀ t, (fun a => win0_11.index t a * main_v59_5.ty.shape.size a) = fun _ => 0 := fun t => funext fun a => by
    fin_cases a <;> exact Nat.zero_mul _
  generalize hG : rD m c = G
  refine (dats m 0 c).arrAt_eq_of_cover 11 G (fun t _ => ?_) (fun i => ⟨⟨0, by omega⟩, flush0_11 _, ?_⟩)
  · show (cfg0.win 11).cut (grid0.coords t) ((dats m 0 c).after 11 t) = _
    rw [left_11, hG]
    exact (Memref.read_access_unit_zero (Elt Ideal) main_v59_5 (hz' t) (fun a => by rw [congrFun (hz' t) a]; simp) G).symm
  · have h : 0 < cfg0.N := by omega
    show i ∈ ((View.whole main_v59_5).slice (win0_11.rect ⟨0, h⟩)).set
    rw [View.set_slice_whole, Rect.mem_set_unit]
    intro a
    match a with
    | ⟨0, _⟩ =>
      show 0 * 6144 ≤ (i 0 : Nat) ∧ (i 0 : Nat) < 0 * 6144 + 6144
      have h0 : (i 0 : Nat) < 6144 := (i 0).isLt
      omega
    | ⟨1, _⟩ =>
      show 0 * 2048 ≤ (i 1 : Nat) ∧ (i 1 : Nat) < 0 * 2048 + 2048
      have h0 : (i 1 : Nat) < 2048 := (i 1).isLt
      omega

end Cert.ReferenceIdeal.Value
-- ==== Proof.Value.Fold.lean ====
module

public import proofs.«01_k».proof.Proof.Value.Parts
public import Idealize.ShloMosaic.PureOps.Ideal.Laws

/-! What the folded absolute maximum of a block says: it is at most `z` exactly when every entry's absolute value is. -/

@[expose] public section

noncomputable section

namespace Cert.KernelIdeal.Value

open Idealize.ShloMosaic Idealize.ShloMosaic.ValueIdx
open Cert.KernelIdeal Cert.KernelIdeal.Gen Cert.Scale

/-- Every entry of a block is at most `z`. -/
def Bnd {s : Shape} (v : s.Idx → EReal) (z : EReal) : Prop := ∀ i, v i ≤ z

/-- Every entry of a block in the columns from `lo` to below `hi` is at most `z`. -/
def Cols {R C : Nat} (v : (⟨2, ![R, C]⟩ : Shape).Idx → EReal) (z : EReal) (lo hi : Nat) : Prop :=
  ∀ i : (⟨2, ![R, C]⟩ : Shape).Idx, lo ≤ (i 1).val → (i 1).val < hi → v i ≤ z

/-- The larger of two blocks is bounded when both are. -/
theorem bnd_max {s : Shape} {φ : FTy} (a b : FVec Ideal s φ) (z : EReal) :
    Bnd (maximumf (F := Ideal) a b) z ↔ Bnd a z ∧ Bnd b z :=
  ⟨fun h => ⟨fun i => le_trans (le_max_left _ _) (h i), fun i => le_trans (le_max_right _ _) (h i)⟩,
    fun h i => max_le (h.1 i) (h.2 i)⟩

/-- A slice of columns is bounded when those columns are. -/
theorem bnd_slice {R C : Nat} (o w : Nat) (v : (⟨2, ![R, C]⟩ : Shape).Idx → EReal)
    (h : (⟨2, ![R, C]⟩ : Shape).Slices ![0, o] ⟨2, ![R, w]⟩) (z : EReal) :
    Bnd (extractStridedSlice ⟨2, ![R, w]⟩ ![0, o] v h) z ↔ Cols v z o (o + w) := by
  constructor
  · intro hb i h0 h1
    have h1' : (i 1).val - o < w := by omega
    refine le_of_eq_of_le (congrArg v ?_) (hb (ix2 (i 0) (⟨(i 1).val - o, h1'⟩ : Fin w)))
    funext a
    apply Fin.ext
    match a with
    | ⟨0, _⟩ => show (i 0).val = 0 + (i 0).val; omega
    | ⟨1, _⟩ => show (i 1).val = o + ((i 1).val - o); omega
  · intro hc i
    exact hc _ (Nat.le_add_right _ _) (Nat.add_lt_add_left (i 1).isLt _)

/-- Adjoining ranges of columns join. -/
theorem cols_join {R C : Nat} (v : (⟨2, ![R, C]⟩ : Shape).Idx → EReal) (z : EReal) (m hi : Nat) (h : m ≤ hi) :
    (Cols v z 0 m ∧ Cols v z m hi) ↔ Cols v z 0 hi := by
  constructor
  · rintro ⟨h1, h2⟩ i hl hh
    by_cases hm : (i 1).val < m
    · exact h1 i hl hm
    · exact h2 i (by omega) hh
  · intro hc
    exact ⟨fun i hl hh => hc i hl (by omega), fun i hl hh => hc i (by omega) hh⟩

/-- All the columns are the block. -/
theorem cols_all {R C : Nat} (v : (⟨2, ![R, C]⟩ : Shape).Idx → EReal) (z : EReal) : Cols v z 0 C ↔ Bnd v z :=
  ⟨fun h i => h i (Nat.zero_le _) (i 1).isLt, fun h i _ _ => h i⟩

/-- A reshape keeps a bound. -/
theorem bnd_shapeCast {s t : Shape} (v : s.Idx → EReal) (h : s.ShapeCasts t) (z : EReal) :
    Bnd (shapeCast t v h) z ↔ Bnd v z := by
  constructor
  · intro hb i
    have := hb ((Shape.reshapeEquiv h).symm i)
    unfold shapeCast at this
    rwa [Equiv.apply_symm_apply] at this
  · intro hb i
    exact hb _

/-- The start of a bf16 maximum is minus infinity. -/
theorem neg_inf_bf16 : (FloatOps.ofBits (F := Ideal) .bf16 0xFF80#16 : EReal) = ⊥ := by
  show Ideal.ieee 8 7 0xFF80#16 = ⊥
  unfold Ideal.ieee
  simp only [show ((0xFF80#16).extractLsb' (8 + 7) 1 == 1#1) = true from by decide,
    show ((0xFF80#16).extractLsb' 7 8).toNat = 255 from by decide, show ((0xFF80#16).extractLsb' 0 7).toNat = 0 from by decide]
  norm_num

/-- The start of an f32 maximum is minus infinity. -/
theorem neg_inf_f32 : (FloatOps.ofBits (F := Ideal) .f32 0xFF800000#32 : EReal) = ⊥ := by
  show Ideal.ieee 8 23 0xFF800000#32 = ⊥
  unfold Ideal.ieee
  simp only [show ((0xFF800000#32).extractLsb' (8 + 23) 1 == 1#1) = true from by decide,
    show ((0xFF800000#32).extractLsb' 23 8).toNat = 255 from by decide, show ((0xFF800000#32).extractLsb' 0 23).toNat = 0 from by decide]
  norm_num

/-- A maximum along axes is bounded when the block is. -/
theorem bnd_multiReduction {s t : Shape} {φ : FTy} {axes : List (Fin s.rank)} (v : FVec Ideal s φ) (acc : BitVec φ.bits)
    (h : s.Reduces axes t) (hφ : FKind.Formats φ) (hacc : acc = FKind.maximumf.neutral φ hφ)
    (hb : (FloatOps.ofBits (F := Ideal) φ acc : EReal) = ⊥) (z : EReal) :
    Bnd (multiReduction .maximumf axes t v acc h hφ hacc) z ↔ Bnd v z := by
  have key : ∀ j, (multiReduction (F := Ideal) .maximumf axes t v acc h hφ hacc j ≤ z) ↔ ∀ i, h.drop i = j → v i ≤ z := by
    intro j
    rw [multiReduction_maximumf_eq_fold]
    refine (Finset.fold_max_le (s := Finset.univ.filter fun i => h.drop i = j) (b := FloatOps.ofBits (F := Ideal) φ acc) (f := v) z).trans ?_
    rw [hb]
    simp
  exact ⟨fun hh i => (key _).1 (hh (h.drop i)) i rfl, fun hh j => (key j).2 fun i _ => hh i⟩

/-- The folded maximum of a weight block is bounded when the block's absolute values are. -/
theorem bnd_foldW (v : FVec Ideal S320x2048 .bf16) (z : EReal) :
    Bnd (foldW v) z ↔ Bnd (absf (F := Ideal) v) z := by
  unfold foldW k0_pay1 k0_pay14 k0_pay13 k0_pay12
  dsimp only
  refine (bnd_multiReduction _ _ _ _ _ neg_inf_bf16 _).trans ((bnd_shapeCast _ _ _).trans ?_)
  simp only [bnd_max]
  simp only [bnd_slice (R := 320) (C := 2048), Nat.reduceAdd]
  iterate 15 rw [cols_join _ _ _ _ (by decide)]
  exact cols_all (R := 320) (C := 2048) _ _

/-- The same of a block of `x`. -/
theorem bnd_foldX (v : FVec Ideal S256x3200 .bf16) (z : EReal) :
    Bnd (foldX v) z ↔ Bnd (absf (F := Ideal) v) z := by
  unfold foldX k1_pay39 k1_pay33
  dsimp only
  rw [shapeCast_self]
  refine (bnd_multiReduction _ _ _ _ _ neg_inf_bf16 _).trans ((bnd_shapeCast _ _ _).trans ?_)
  simp only [bnd_max]
  simp only [bnd_slice (R := 256) (C := 3200), Nat.reduceAdd]
  iterate 24 rw [cols_join _ _ _ _ (by decide)]
  exact cols_all (R := 256) (C := 3200) _ _

/-- The same of a block of `dy`. -/
theorem bnd_foldD (v : FVec Ideal S256x2048 .bf16) (z : EReal) :
    Bnd (foldD v) z ↔ Bnd (absf (F := Ideal) v) z := by
  unfold foldD k1_pay1 k1_pay42 k1_pay41 k1_pay40 k1_pay34
  dsimp only
  rw [shapeCast_self]
  refine (bnd_multiReduction _ _ _ _ _ neg_inf_bf16 _).trans ((bnd_shapeCast _ _ _).trans ?_)
  simp only [bnd_max]
  simp only [bnd_slice (R := 256) (C := 2048), Nat.reduceAdd]
  iterate 15 rw [cols_join _ _ _ _ (by decide)]
  exact cols_all (R := 256) (C := 2048) _ _

/-- The running maximum joined with a block's is bounded when both are. -/
theorem bnd_join (a v : FVec Ideal S16x128 .bf16) (z : EReal) : Bnd (join a v) z ↔ Bnd a z ∧ Bnd v z := by
  unfold join
  rw [bnd_max, bnd_shapeCast]

end Cert.KernelIdeal.Value
-- ==== Proof.Value.Pay.lean ====
module

public import proofs.«01_k».proof.Proof.Value.Fold
public import Idealize.ShloMosaic.Lib.Pointwise

/-! The new history the last call writes: the current maxima in the step's column, the old history elsewhere. -/

@[expose] public section

noncomputable section

namespace Cert.KernelIdeal.Value

open Idealize.ShloMosaic
open Cert.KernelIdeal Cert.KernelIdeal.Gen Cert.Scale

/-- The largest entry of an array. -/
def topOf {s : Shape} (m : s.Idx → EReal) : EReal := Finset.univ.sup m

/-- The largest entry is at most `z` exactly when every entry is. -/
theorem topOf_le {s : Shape} (m : s.Idx → EReal) (z : EReal) : topOf m ≤ z ↔ Bnd m z := by
  unfold topOf Bnd
  simp

/-- The fold of an array's coordinates is its largest entry. -/
theorem fold_eq_topOf {a b : Nat} (m : (⟨2, ![a, b]⟩ : Shape).Idx → EReal) :
    Finset.fold max (Ideal.ofBits FTy.f32 0xFF800000#32) (fun k : Fin a × Fin b => m (ix2 k.1 k.2)) Finset.univ = topOf m := by
  refine eq_of_forall_ge_iff fun z => ?_
  rw [topOf_le, Finset.fold_max_le, show Ideal.ofBits FTy.f32 0xFF800000#32 = ⊥ from neg_inf_f32]
  unfold Bnd
  refine ⟨fun h i => ?_, fun h => ⟨bot_le, fun k _ => h _⟩⟩
  have := h.2 (i 0, i 1) (Finset.mem_univ _)
  refine le_of_eq_of_le (congrArg m ?_) this
  funext x
  match x with
  | ⟨0, _⟩ => rfl
  | ⟨1, _⟩ => rfl

/-- The maximum written into row `r`. -/
def cur (xm wm dm : EReal) (r : Fin 3) : EReal := if r.val = 0 then xm else if r.val = 1 then wm else dm

/-- The new history at an index. -/
theorem pay1_apply (h : Vec Ideal S3x16 .f32) (s : BitVec 32) (xm wm dm : FVec Ideal S16x128 .bf16) (i : S3x16.Idx) :
    k2_pay1 (F := Ideal) h s xm wm dm i
      = if BitVec.ofNat 32 (i 1).val = s &&& 15#32 then cur (topOf xm) (topOf wm) (topOf dm) (i 0) else h i := by
  unfold k2_pay1
  simp only [pointwise]
  have e := @fold_eq_topOf 16 128
  rw [e xm, e wm, e dm]
  unfold Scalar.select cur
  have hw : (List.foldl (fun n a => n * ![3, 16] a + (i a).val) 0 [1]) = (i 1).val := by
    show 0 * 16 + (i 1).val = _
    omega
  rw [hw]
  have h3 : (i 0).val < 3 := (i 0).isLt
  have hc : ∀ x y : BitVec 32, (IntOp.cmpi CmpIPredicate.eq x y = 1) ↔ x = y := by
    intro x y
    show BitVec.ofBool (x == y) = 1#1 ↔ x = y
    by_cases h : x = y
    · simp [h]
    · simp only [h, iff_false]
      rw [show (x == y) = false from beq_eq_false_iff_ne.mpr h]
      decide
  rw [if_congr (hc _ _) rfl rfl]
  refine if_congr Iff.rfl ?_ rfl
  by_cases h0 : (i 0).val = 0
  · rw [if_pos h0]
    exact dif_pos (show (i 0).val < 1 by omega)
  · rw [if_neg h0]
    refine (dif_neg (show ¬ (i 0).val < 1 by omega)).trans ?_
    by_cases h1 : (i 0).val = 1
    · rw [if_pos h1]
      exact dif_pos (show (i 0).val - 1 < 1 by omega)
    · rw [if_neg h1]
      exact dif_neg (show ¬ (i 0).val - 1 < 1 by omega)

end Cert.KernelIdeal.Value
-- ==== Proof.Value.RefMath.lean ====
module

public import proofs.«01_k».proof.Proof.Value.Pay
public import proofs.«01_k».proof.Proof.Gen.ReferenceIdeal.Skeleton
public import Idealize.ShloMosaic.PureOps.Reduce

/-! The reference's host operations as plain mathematics: a maximum, the table's scale, the floor remainder. -/

@[expose] public section

set_option maxRecDepth 65536

noncomputable section

namespace Cert.ReferenceIdeal.Value

open Idealize.ShloMosaic
open Cert.ReferenceIdeal Cert.ReferenceIdeal.Gen Cert.Scale
open Cert.KernelIdeal.Value (rowMax ent_eq mag topOf topOf_le Bnd neg_inf_f32 neg_inf_bf16)

/-- A host maximum is at most `z` exactly when every entry it folds is. -/
theorem hostMax_le {s t u : Shape} {axes : List (Fin s.rank)} {φ : FTy} (x : s.Idx → EReal) (init : u.Idx → EReal)
    (h : s.ReducesTo axes t) (hu : 0 < u.numel) (hi : ∀ i, init i = ⊥) (j : t.Idx) (z : EReal) :
    Host.reduce (FloatOps.maximumf (F := Ideal) (φ := φ)) x init h hu j ≤ z ↔ ∀ i, h.drop i = j → x i ≤ z := by
  rw [Host.reduce_eq_fold, hi]
  show Finset.fold max ⊥ x _ ≤ z ↔ _
  rw [Finset.fold_max_le]
  simp

/-- Into a scalar, every entry is folded. -/
theorem hostMax_all {s t u : Shape} {axes : List (Fin s.rank)} {φ : FTy} (ht : t.rank = 0) (x : s.Idx → EReal) (init : u.Idx → EReal)
    (h : s.ReducesTo axes t) (hu : 0 < u.numel) (hi : ∀ i, init i = ⊥) (j : t.Idx) :
    Host.reduce (FloatOps.maximumf (F := Ideal) (φ := φ)) x init h hu j = topOf x := by
  refine eq_of_forall_ge_iff fun z => ?_
  rw [hostMax_le x init h hu hi, topOf_le]
  exact ⟨fun hh i => hh i (funext fun a => absurd a.isLt (by omega)), fun hh i _ => hh i⟩

/-- The kernel's row maximum is at most `z` exactly when the row's entries are. -/
theorem rowMax_le (h : Vec Ideal S3x16 .f32) (r : Fin 3) (z : EReal) :
    rowMax h r ≤ z ↔ ∀ j : Fin 16, h (ValueIdx.ix2 r j) ≤ z := by
  unfold rowMax
  simp only [Ideal.scalar_maximumf_def, max_le_iff]
  rw [show ∀ P : Fin 16 → Prop, (∀ j, P j) ↔ (((((((((((((((P 0 ∧ P 1) ∧ P 2) ∧ P 3) ∧ P 4) ∧ P 5) ∧ P 6) ∧ P 7) ∧ P 8) ∧ P 9) ∧ P 10) ∧ P 11) ∧ P 12) ∧ P 13) ∧ P 14) ∧ P 15) from fun P => by
    constructor
    · intro hp; simp [hp]
    · intro hp j; obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := hp
      fin_cases j <;> assumption]
  rw [← ent_eq h r 0 (Cert.KernelIdeal.Value.inb r 0), ← ent_eq h r 1 (Cert.KernelIdeal.Value.inb r 1),
    ← ent_eq h r 2 (Cert.KernelIdeal.Value.inb r 2), ← ent_eq h r 3 (Cert.KernelIdeal.Value.inb r 3),
    ← ent_eq h r 4 (Cert.KernelIdeal.Value.inb r 4), ← ent_eq h r 5 (Cert.KernelIdeal.Value.inb r 5),
    ← ent_eq h r 6 (Cert.KernelIdeal.Value.inb r 6), ← ent_eq h r 7 (Cert.KernelIdeal.Value.inb r 7),
    ← ent_eq h r 8 (Cert.KernelIdeal.Value.inb r 8), ← ent_eq h r 9 (Cert.KernelIdeal.Value.inb r 9),
    ← ent_eq h r 10 (Cert.KernelIdeal.Value.inb r 10), ← ent_eq h r 11 (Cert.KernelIdeal.Value.inb r 11),
    ← ent_eq h r 12 (Cert.KernelIdeal.Value.inb r 12), ← ent_eq h r 13 (Cert.KernelIdeal.Value.inb r 13),
    ← ent_eq h r 14 (Cert.KernelIdeal.Value.inb r 14), ← ent_eq h r 15 (Cert.KernelIdeal.Value.inb r 15)]
  rfl

/-- The reference's row maxima. -/
theorem rows_eq (x : FVec Ideal S3x16 .f32) (init : FVec Ideal S_ .f32) (hi : ∀ i, init i = ⊥) (h : S3x16.ReducesTo [1] S3)
    (hu : 0 < S_.numel) (r : Fin 3) (j : S3.Idx) (hj : j = ValueIdx.ix1 r) :
    Host.reduce (FloatOps.maximumf (F := Ideal) (φ := .f32)) x init h hu j = rowMax x r := by
  refine eq_of_forall_ge_iff fun z => ?_
  rw [hostMax_le x init h hu hi, rowMax_le]
  have hv : ∀ i : S3x16.Idx, (h.drop i 0 : Nat) = (i 0).val := fun i => Shape.ReducesTo.drop_apply_val h i 0
  constructor
  · intro hh k
    refine hh (ValueIdx.ix2 r k) (funext fun a => ?_)
    rw [hj]
    match a with
    | ⟨0, _⟩ => exact Fin.ext (hv _)
  · intro hh i hd
    have e : i = ValueIdx.ix2 r (i 1) := by
      rw [hj] at hd
      funext a
      match a with
      | ⟨0, _⟩ => exact Fin.ext ((hv i).symm.trans (congrArg Fin.val (congrFun hd 0)))
      | ⟨1, _⟩ => rfl
    rw [e]
    exact hh _

/-- A select by a comparison of floats. -/
theorem sel_ole (x y a b : EReal) :
    Scalar.select (FloatOps.cmpf (F := Ideal) (φ := .f32) .ole x y) a b = if x ≤ y then a else b := by
  show (if BitVec.ofBool (decide (x ≤ y)) = 1 then a else b) = _
  by_cases h : x ≤ y <;> simp [h]

theorem sel_oeq (x y a b : EReal) :
    Scalar.select (FloatOps.cmpf (F := Ideal) (φ := .f32) .oeq x y) a b = if x = y then a else b := by
  show (if BitVec.ofBool (decide (x = y)) = 1 then a else b) = _
  by_cases h : x = y <;> simp [h]

theorem zero_word : (FloatOps.ofBits (F := Ideal) .f32 0#32 : EReal) = 0 := pow2_zero

theorem one_word : (FloatOps.ofBits (F := Ideal) .f32 1065353216#32 : EReal) = 1 := pow2_127

theorem two_word : (FloatOps.ofBits (F := Ideal) .f32 1073741824#32 : EReal) = 2 := by
  show pow2 128 = 2
  rw [pow2_coe 128 (by omega) (by omega)]
  norm_num
  rfl

/-- The scale the reference's table gives a magnitude. -/
theorem table_scale (L : FVec Ideal S254 .f32) (hL : ∀ i, L i = pow2 ((i 0).val + 1)) (b : FVec Ideal S_ .f32) :
    select (cmpf (F := Ideal) .oeq
        (Host.reduce (FloatOps.maximumf (F := Ideal) (φ := .f32))
          (select (cmpf (F := Ideal) .ole L (broadcastInDim S254 ![] bcast_S_S254 b)) L
            (broadcastInDim S254 ![] bcast_S_S254 (constant (F := Ideal) S_ .f32 0#32)))
          (constant (F := Ideal) S_ .f32 4286578688#32) reducesTo_S254_S_d0 h_S_)
        (constant (F := Ideal) S_ .f32 0#32))
      (constant (F := Ideal) S_ .f32 1065353216#32)
      (mulf (F := Ideal) (constant (F := Ideal) S_ .f32 1073741824#32)
        (Host.reduce (FloatOps.maximumf (F := Ideal) (φ := .f32))
          (select (cmpf (F := Ideal) .ole L (broadcastInDim S254 ![] bcast_S_S254 b)) L
            (broadcastInDim S254 ![] bcast_S_S254 (constant (F := Ideal) S_ .f32 0#32)))
          (constant (F := Ideal) S_ .f32 4286578688#32) reducesTo_S254_S_d0 h_S_))
      = fun _ => refScale (b ValueIdx.ix0) := by
  have hR : (Host.reduce (FloatOps.maximumf (F := Ideal) (φ := .f32))
          (select (cmpf (F := Ideal) .ole L (broadcastInDim S254 ![] bcast_S_S254 b)) L
            (broadcastInDim S254 ![] bcast_S_S254 (constant (F := Ideal) S_ .f32 0#32)))
          (constant (F := Ideal) S_ .f32 4286578688#32) reducesTo_S254_S_d0 h_S_) = fun _ => below (b ValueIdx.ix0) := by
    funext j
    refine (hostMax_all (φ := .f32) (t := S_) rfl _ (constant (F := Ideal) S_ .f32 4286578688#32) _ _ (fun _ => neg_inf_f32) j).trans ?_
    refine eq_of_forall_ge_iff fun z => ?_
    rw [topOf_le]
    unfold below Bnd
    rw [Finset.sup_le_iff]
    have hx : ∀ i : S254.Idx, (select (cmpf (F := Ideal) .ole L (broadcastInDim S254 ![] bcast_S_S254 b)) L
            (broadcastInDim S254 ![] bcast_S_S254 (constant (F := Ideal) S_ .f32 0#32))) i
          = if pow2 ((i 0).val + 1) ≤ b ValueIdx.ix0 then pow2 ((i 0).val + 1) else 0 := by
      intro i
      refine (sel_ole (L i) (b _) (L i) _).trans ?_
      rw [hL]
      have hq : ∀ q : S_.Idx, b q = b ValueIdx.ix0 := fun q => congrArg b (funext fun a => a.elim0)
      exact if_congr (iff_of_eq (congrArg (fun y : EReal => pow2 ((i 0).val + 1) ≤ y) (hq _))) rfl zero_word
    constructor
    · intro hh k _
      have := hh (ValueIdx.ix1 k)
      rw [hx] at this
      exact this
    · intro hh i
      rw [hx]
      exact hh (i 0) (Finset.mem_univ _)
  rw [hR]
  funext j
  refine (sel_oeq _ _ _ _).trans ?_
  unfold refScale
  refine if_congr (by rw [show (constant (F := Ideal) S_ .f32 0#32) j = (0 : EReal) from zero_word]) one_word ?_
  show FloatOps.ofBits (F := Ideal) .f32 1073741824#32 * below (b ValueIdx.ix0) = _
  rw [two_word]

/-- The floor remainder by sixteen is the low four bits. -/
theorem floorMod (s : BitVec 32) :
    (if (s.srem 16#32).slt 0#32 = true ∧ s.srem 16#32 ≠ 0#32 then s.srem 16#32 + 16#32 else s.srem 16#32) = s &&& 15#32 := by
  have h1 : (s &&& 15#32).toNat = s.toNat % 16 := by
    rw [BitVec.toNat_and]
    exact Nat.and_two_pow_sub_one_eq_mod s.toNat 4
  have h2 : (s.srem 16#32).toInt = s.toInt.tmod 16 := by
    rw [BitVec.toInt_srem]; rfl
  have h3 : (s &&& 15#32).toInt = s.toInt % 16 := by
    have hs := s.isLt
    rw [BitVec.toInt_eq_toNat_cond, BitVec.toInt_eq_toNat_cond, h1]
    split <;> split <;> omega
  have hm : s.toInt.tmod 16 = if 0 ≤ s.toInt ∨ s.toInt % 16 = 0 then s.toInt % 16 else s.toInt % 16 - 16 := by
    have := Int.emod_eq_tmod (a := s.toInt) (b := 16)
    split_ifs at this ⊢ <;> omega
  have hl : (s.srem 16#32).slt 0#32 = true ↔ s.toInt.tmod 16 < 0 := by
    rw [BitVec.slt_iff_toInt_lt, h2]; rfl
  have hne : s.srem 16#32 ≠ 0#32 ↔ s.toInt.tmod 16 ≠ 0 := by
    rw [ne_eq, ← BitVec.toInt_inj, h2]; rfl
  apply BitVec.eq_of_toInt_eq
  rw [h3]
  split_ifs with h
  · rw [hl, hne] at h
    rw [BitVec.toInt_add, h2]
    have h16 : (16#32).toInt = 16 := by decide
    rw [h16, Int.bmod_def]
    split_ifs at hm ⊢ <;> omega
  · rw [hl, hne] at h
    rw [h2]
    split_ifs at hm <;> omega

end Cert.ReferenceIdeal.Value
-- ==== Proof.Value.Out0.lean ====
module

public import proofs.«01_k».proof.Proof.Frame.Region0
public import proofs.«01_k».proof.Proof.Value.Parts
public import Idealize.ShloMosaic.Lib.Tactic

/-! What each output block of kernel 0 holds after its body, at exact arithmetic, in the parts of `Value.Parts`:
case A is the first grid point, case B the others. -/

@[expose] public section

set_option maxRecDepth 65536

noncomputable section

namespace Cert.KernelIdeal.Value

open Idealize.ShloMosaic Idealize.ShloMosaic.TcCoe Idealize.ShloMosaic.ValueIdx Idealize.SL.Sem
open Cert.KernelIdeal Cert.KernelIdeal.Gen Cert.Scale

theorem out0_A_2_eq (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : cond0_0 i) (hc1 : ¬cond0_1 i)
    (x0 : Vec Ideal S3x16 .f32) (x1 : Vec Ideal S320x2048 .bf16) :
    out0_A_2 (F := Ideal) c i arg1 harg1 arg2 harg2 arg3 harg3 arg4 harg4 hc0 hc1 x0 x1 = codes43 (recip (bw x0)) x1 := by
  unfold out0_A_2
  rw [View.read_writes_eq_canon _ _ _ (cover0_A_2 c i arg1 harg1 arg2 harg2 arg3 harg3 arg4 harg4 hc0 hc1 x0 x1)]
  unfold kernelRun0_A
  dsimp only
  sl_unfold_words
  rw [View.canon_unit_zero hz]
  simp only [View.readAt_eq_ld, harg1.read_unread, harg2.read_unread, harg3.read_unread, harg4.read_unread, View.ld_unit_zero (S := S16x128) hz, View.ld_unit_zero (S := S320x2048) hz]
  sl_kernel_rfl

theorem out0_A_3_eq (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : cond0_0 i) (hc1 : ¬cond0_1 i)
    (x0 : Vec Ideal S3x16 .f32) (x1 : Vec Ideal S320x2048 .bf16) :
    out0_A_3 (F := Ideal) c i arg1 harg1 arg2 harg2 arg3 harg3 arg4 harg4 hc0 hc1 x0 x1 = foldW x1 := by
  unfold out0_A_3
  rw [View.read_writes_eq_canon _ _ _ (cover0_A_3 c i arg1 harg1 arg2 harg2 arg3 harg3 arg4 harg4 hc0 hc1 x0 x1)]
  unfold kernelRun0_A
  dsimp only
  sl_unfold_words
  rw [View.canon_unit_zero hz]
  simp only [View.readAt_eq_ld, harg1.read_unread, harg2.read_unread, harg3.read_unread, harg4.read_unread, View.ld_unit_zero (S := S16x128) hz, View.ld_unit_zero (S := S320x2048) hz]
  sl_kernel_rfl

theorem out0_B_2_eq (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : ¬cond0_0 i) (hc1 : cond0_1 i)
    (x0 : Vec Ideal S3x16 .f32) (x1 : Vec Ideal S320x2048 .bf16) (xo3 : Vec Ideal S16x128 .bf16) :
    out0_B_2 (F := Ideal) c i arg1 harg1 arg2 harg2 arg3 harg3 arg4 harg4 hc0 hc1 x0 x1 xo3 = codes43 (recip (bw x0)) x1 := by
  unfold out0_B_2
  rw [View.read_writes_eq_canon _ _ _ (cover0_B_2 c i arg1 harg1 arg2 harg2 arg3 harg3 arg4 harg4 hc0 hc1 x0 x1 xo3)]
  unfold kernelRun0_B
  dsimp only
  sl_unfold_words
  rw [View.canon_unit_zero hz]
  simp only [View.readAt_eq_ld, harg1.read_unread, harg2.read_unread, harg3.read_unread, harg4.read_unread, View.ld_unit_zero (S := S16x128) hz, View.ld_unit_zero (S := S320x2048) hz]
  sl_kernel_rfl

theorem out0_B_3_eq (c : Dev nD) (i : grid0.Coords) (arg1 : Memref sig .tc .smem S3x16 .f32) (harg1 : arg1.IsWhole) (arg2 : Memref sig .tc .vmem S320x2048 .bf16) (harg2 : arg2.IsWhole) (arg3 : Memref sig .tc .vmem S320x2048 .fp8e4m3) (harg3 : arg3.IsWhole) (arg4 : Memref sig .tc .vmem S16x128 .bf16) (harg4 : arg4.IsWhole) (hc0 : ¬cond0_0 i) (hc1 : cond0_1 i)
    (x0 : Vec Ideal S3x16 .f32) (x1 : Vec Ideal S320x2048 .bf16) (xo3 : Vec Ideal S16x128 .bf16) :
    out0_B_3 (F := Ideal) c i arg1 harg1 arg2 harg2 arg3 harg3 arg4 harg4 hc0 hc1 x0 x1 xo3 = join xo3 (foldW x1) := by
  unfold out0_B_3
  rw [View.read_writes_eq_canon _ _ _ (cover0_B_3 c i arg1 harg1 arg2 harg2 arg3 harg3 arg4 harg4 hc0 hc1 x0 x1 xo3)]
  unfold kernelRun0_B
  dsimp only
  sl_unfold_words
  rw [View.canon_unit_zero hz]
  simp only [View.readAt_eq_ld, harg1.read_unread, harg2.read_unread, harg3.read_unread, harg4.read_unread, View.ld_unit_zero (S := S16x128) hz, View.ld_unit_zero (S := S320x2048) hz]
  sl_kernel_rfl

end Cert.KernelIdeal.Value
-- ==== Proof.Value.Arr0.lean ====
module

public import proofs.«01_k».proof.Proof.Value.Out0
public import proofs.«01_k».proof.Proof.Value.Pay

/-! The arrays the first call leaves: the weight codes, and the running maximum of the weight's absolute values. -/

@[expose] public section

set_option maxRecDepth 65536

noncomputable section

namespace Cert.KernelIdeal.Value

open Idealize.ShloMosaic Idealize.ShloMosaic.TcCoe Idealize.SL.Sem
open Cert.KernelIdeal Cert.KernelIdeal.Gen Cert.Scale

variable (V : (c : Dev nD) → (b : Ref sig .tc) → Buf (Elt Ideal) ((c : Thread nD τ).loc b))

/-- Input window 0's block is the whole array at every grid point. -/
theorem iblk0_0_eq (c : Dev nD) (t : Fin cfg0.N) : (iblk0 V c 0 t : Vec Ideal S3x16 .f32) = V c main_arg3 := by
  have hz' : (fun a => win0_0.index t a * main_arg3.ty.shape.size a) = fun _ => 0 := funext fun a => by
    fin_cases a <;> exact Nat.zero_mul _
  exact Memref.read_access_unit_zero (Elt Ideal) main_arg3 hz' (fun a => by rw [congrFun hz' a]; simp) (V c main_arg3)

/-- Every index of the array lies in the block of some grid point. -/
theorem cover0_1 (i : S3200x2048.Idx) : ∃ t : Fin cfg0.N, i ∈ ((cfg0.win 1).blk t).view.set := by
  have h0 : (i 0 : Nat) < 3200 := (i 0).isLt
  have h1 : (i 1 : Nat) < 2048 := (i 1).isLt
  have hN : cfg0.N = 10 := N_0
  have e : ∀ t : Fin grid0.N, (win0_1.index t 0 * win0_1.size 0 = 320 * t.val ∧ win0_1.xsize (grid0.coords t) 0 = 320) ∧ (win0_1.index t 1 * win0_1.size 1 = 0 ∧ win0_1.xsize (grid0.coords t) 1 = 2048) := by
    decide +kernel
  obtain ⟨t, ht⟩ : ∃ t : Fin cfg0.N, t.val = (i 0 : Nat) / 320 := ⟨⟨(i 0 : Nat) / 320, by omega⟩, rfl⟩
  refine ⟨t, ?_⟩
  show i ∈ ((View.whole main_arg1).slice (win0_1.rect t)).set
  rw [View.set_slice_whole, Rect.mem_set_unit]
  intro a
  match a with
  | ⟨0, _⟩ =>
    show win0_1.index t 0 * win0_1.size 0 ≤ (i 0 : Nat) ∧ (i 0 : Nat) < win0_1.index t 0 * win0_1.size 0 + win0_1.xsize (grid0.coords t) 0
    rw [(e t).1.1, (e t).1.2]; omega
  | ⟨1, _⟩ =>
    show win0_1.index t 1 * win0_1.size 1 ≤ (i 1 : Nat) ∧ (i 1 : Nat) < win0_1.index t 1 * win0_1.size 1 + win0_1.xsize (grid0.coords t) 1
    rw [(e t).2.1, (e t).2.2]; omega

/-- Every index of the array lies in the block of some grid point. -/
theorem cover0_2 (i : S3200x2048.Idx) : ∃ t : Fin cfg0.N, (cfg0.win 2).flush t = true ∧ i ∈ ((cfg0.win 2).blk t).view.set := by
  have h0 : (i 0 : Nat) < 3200 := (i 0).isLt
  have h1 : (i 1 : Nat) < 2048 := (i 1).isLt
  have hN : cfg0.N = 10 := N_0
  have e : ∀ t : Fin grid0.N, (win0_2.index t 0 * win0_2.size 0 = 320 * t.val ∧ win0_2.xsize (grid0.coords t) 0 = 320) ∧ (win0_2.index t 1 * win0_2.size 1 = 0 ∧ win0_2.xsize (grid0.coords t) 1 = 2048) := by
    decide +kernel
  obtain ⟨t, ht⟩ : ∃ t : Fin cfg0.N, t.val = (i 0 : Nat) / 320 := ⟨⟨(i 0 : Nat) / 320, by omega⟩, rfl⟩
  refine ⟨t, flush0_2 _, ?_⟩
  show i ∈ ((View.whole main_v2_0).slice (win0_2.rect t)).set
  rw [View.set_slice_whole, Rect.mem_set_unit]
  intro a
  match a with
  | ⟨0, _⟩ =>
    show win0_2.index t 0 * win0_2.size 0 ≤ (i 0 : Nat) ∧ (i 0 : Nat) < win0_2.index t 0 * win0_2.size 0 + win0_2.xsize (grid0.coords t) 0
    rw [(e t).1.1, (e t).1.2]; omega
  | ⟨1, _⟩ =>
    show win0_2.index t 1 * win0_2.size 1 ≤ (i 1 : Nat) ∧ (i 1 : Nat) < win0_2.index t 1 * win0_2.size 1 + win0_2.xsize (grid0.coords t) 1
    rw [(e t).2.1, (e t).2.2]; omega

/-- Every block of codes is its weight block's codes. -/
theorem outs0_2 (c : Dev nD) (t : Fin cfg0.N) : (outsAt0 V c t.val t.isLt).1 = (codes43 (recip (bw (V c main_arg3))) (iblk0 V c 1 t) : Vec Ideal S320x2048 .fp8e4m3) := by
  have hN : t.val < 10 := lt_of_lt_of_eq t.isLt (show cfg0.N = 10 from N_0)
  by_cases h : 1 ≤ t.val
  · rw [outsAt0_B V c t (by omega) h]
    dsimp only
    rw [out0_B_2_eq, iblk0_0_eq]
  · rw [outsAt0_A V c t (by omega) h]
    dsimp only
    rw [out0_A_2_eq, iblk0_0_eq]

/-- The array of weight codes. -/
theorem arr0_2 (c : Dev nD) : (dat0 V c).arrAt 2 cfg0.N = codes43 (s := S3200x2048) (recip (bw (V c main_arg3))) (V c main_arg1) := by
  refine (dat0 V c).arrAt_eq_of_cover 2 _ (fun t _ => ?_) cover0_2
  show (cfg0.win 2).cut (grid0.coords t) ((dat0 V c).after 2 t) = _
  rw [after0_2, outs0_2]
  rfl

/-- Output window 3 is written back once, at the last grid point, so the array ends holding what that point left. -/
theorem arr0_3 (c : Dev nD) (G : Vec Ideal S16x128 .bf16) (hG : ∀ t : Fin cfg0.N, t.val = 9 → (dat0 V c).after 3 t = G) :
    (dat0 V c).arrAt 3 cfg0.N = G := by
  have hN : cfg0.N = 10 := N_0
  have hz' : ∀ t, (fun a => win0_3.index t a * main_v2_1.ty.shape.size a) = fun _ => 0 := fun t => funext fun a => by
    fin_cases a <;> exact Nat.zero_mul _
  refine (dat0 V c).arrAt_eq_of_cover 3 G (fun t hf => ?_) (fun i => ⟨⟨9, by omega⟩, (flush0_3 _).mpr rfl, ?_⟩)
  · have h3 := (flush0_3 t).mp hf
    have h4 := t.isLt
    show (cfg0.win 3).cut (grid0.coords t) ((dat0 V c).after 3 t) = _
    rw [hG t (by omega)]
    exact (Memref.read_access_unit_zero (Elt Ideal) main_v2_1 (hz' t) (fun a => by rw [congrFun (hz' t) a]; simp) G).symm
  · have h : 9 < cfg0.N := by omega
    show i ∈ ((View.whole main_v2_1).slice (win0_3.rect ⟨9, h⟩)).set
    rw [View.set_slice_whole, Rect.mem_set_unit]
    intro a
    have h0 : win0_3.index ⟨9, h⟩ a * main_v2_1.ty.shape.size a = 0 := congrFun (hz' _) a
    have h1 : (i a : Nat) < main_v2_1.ty.shape.size a := (i a).isLt
    exact ⟨by show win0_3.index ⟨9, h⟩ a * main_v2_1.ty.shape.size a ≤ _; omega, by show _ < win0_3.index ⟨9, h⟩ a * main_v2_1.ty.shape.size a + main_v2_1.ty.shape.size a; omega⟩

/-- Equal points leave equal blocks. -/
theorem outs_congr0 (c : Dev nD) (a b : ℕ) (ha : a < cfg0.N) (hb : b < cfg0.N) (h : a = b) : outsAt0 V c a ha = outsAt0 V c b hb := by
  subst h
  rfl

/-- What the running maximum is bounded by after a point: every block up to it is. -/
theorem bnd0_3 (c : Dev nD) (z : EReal) : ∀ (k : ℕ) (hk : k < cfg0.N),
    Bnd (outsAt0 V c k hk).2 z ↔ ∀ t : Fin cfg0.N, t.val ≤ k → Bnd (absf (F := Ideal) (φ := .bf16) (iblk0 V c 1 t : Vec Ideal S320x2048 .bf16)) z
  | 0, hk => by
    rw [outsAt0_A V c ⟨0, hk⟩ rfl (by dsimp only; omega)]
    dsimp only
    rw [out0_A_3_eq, bnd_foldW]
    refine ⟨fun h t ht => ?_, fun h => h _ (le_refl _)⟩
    obtain rfl : t = ⟨0, hk⟩ := Fin.ext (by dsimp only; omega)
    exact h
  | k + 1, hk => by
    have hN : cfg0.N = 10 := N_0
    rw [outsAt0_B V c ⟨k + 1, hk⟩ (by dsimp only; omega) (by dsimp only; omega)]
    dsimp only
    rw [out0_B_3_eq, bnd_join, bnd_foldW]
    have ih := bnd0_3 c z k (Nat.lt_of_succ_lt hk)
    refine (and_congr_left' ih).trans ⟨fun h t ht => ?_, fun h => ⟨fun t ht => h t (by omega), h _ (le_refl _)⟩⟩
    by_cases he : t.val = k + 1
    · obtain rfl : t = ⟨k + 1, hk⟩ := Fin.ext he
      exact h.2
    · exact h.1 t (by omega)

/-- The array of running maxima is bounded by `z` exactly when every absolute value of the whole array is. -/
theorem top0_3 (c : Dev nD) (z : EReal) :
    Bnd ((dat0 V c).arrAt 3 cfg0.N : Vec Ideal S16x128 .bf16) z ↔ Bnd (absf (F := Ideal) (φ := .bf16) (V c main_arg1 : Vec Ideal S3200x2048 .bf16)) z := by
  have hN : cfg0.N = 10 := N_0
  have h : 9 < cfg0.N := by omega
  rw [arr0_3 V c (outsAt0 V c 9 h).2 fun t ht => by
    rw [after0_3, outs_congr0 V c _ _ t.isLt h ht]]
  rw [bnd0_3]
  constructor
  · intro hb i
    obtain ⟨t, ht⟩ := cover0_1 i
    obtain ⟨j, _, rfl⟩ := Finset.mem_map.mp ht
    exact hb t (by have := t.isLt; omega) j
  · intro hb t _ j
    exact hb _

end Cert.KernelIdeal.Value
-- ==== Proof.Value.Out1.lean ====
module

public import proofs.«01_k».proof.Proof.Frame.Region1
public import proofs.«01_k».proof.Proof.Value.Parts
public import Idealize.ShloMosaic.Lib.Tactic

/-! What each output block of kernel 1 holds after its body, at exact arithmetic, in the parts of `Value.Parts`:
case A is the first grid point, case B the others. -/

@[expose] public section

set_option maxRecDepth 65536

noncomputable section

namespace Cert.KernelIdeal.Value

open Idealize.ShloMosaic Idealize.ShloMosaic.TcCoe Idealize.ShloMosaic.ValueIdx Idealize.SL.Sem
open Cert.KernelIdeal Cert.KernelIdeal.Gen Cert.Scale

theorem out1_A_4_eq (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec Ideal S3x16 .f32) (x1 : Vec Ideal S256x3200 .bf16) (x2 : Vec Ideal S256x2048 .bf16) (x3 : Vec Ideal S3200x2048 .fp8e4m3) :
    out1_A_4 (F := Ideal) c i arg1 harg1 arg2 harg2 arg3 harg3 arg4 harg4 arg5 harg5 arg6 harg6 arg7 harg7 arg8 harg8 arg9 harg9 arg10 harg10 hc0 hc1 x0 x1 x2 x3 = prodY x0 (codes43 (recip (bx x0)) (k1_pay33 x1)) x3 := by
  unfold out1_A_4
  rw [View.read_writes_eq_canon _ _ _ (cover1_A_4 c i arg1 harg1 arg2 harg2 arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S16x128) hz, View.ld_unit_zero (S := S256x2048) hz, View.ld_unit_zero (S := S256x3200) hz, View.ld_unit_zero (S := S3200x2048) hz]
  sl_kernel_rfl

theorem out1_A_5_eq (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec Ideal S3x16 .f32) (x1 : Vec Ideal S256x3200 .bf16) (x2 : Vec Ideal S256x2048 .bf16) (x3 : Vec Ideal S3200x2048 .fp8e4m3) :
    out1_A_5 (F := Ideal) c i arg1 harg1 arg2 harg2 arg3 harg3 arg4 harg4 arg5 harg5 arg6 harg6 arg7 harg7 arg8 harg8 arg9 harg9 arg10 harg10 hc0 hc1 x0 x1 x2 x3 = prodX x0 (codes52 (recip (bd x0)) (k1_pay34 x2)) x3 := by
  unfold out1_A_5
  rw [View.read_writes_eq_canon _ _ _ (cover1_A_5 c i arg1 harg1 arg2 harg2 arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S16x128) hz, View.ld_unit_zero (S := S256x2048) hz, View.ld_unit_zero (S := S256x3200) hz, View.ld_unit_zero (S := S3200x2048) hz]
  sl_kernel_rfl

theorem out1_A_6_eq (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec Ideal S3x16 .f32) (x1 : Vec Ideal S256x3200 .bf16) (x2 : Vec Ideal S256x2048 .bf16) (x3 : Vec Ideal S3200x2048 .fp8e4m3) :
    out1_A_6 (F := Ideal) c i arg1 harg1 arg2 harg2 arg3 harg3 arg4 harg4 arg5 harg5 arg6 harg6 arg7 harg7 arg8 harg8 arg9 harg9 arg10 harg10 hc0 hc1 x0 x1 x2 x3 = codes43 (recip (bx x0)) (k1_pay33 x1) := by
  unfold out1_A_6
  rw [View.read_writes_eq_canon _ _ _ (cover1_A_6 c i arg1 harg1 arg2 harg2 arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S16x128) hz, View.ld_unit_zero (S := S256x2048) hz, View.ld_unit_zero (S := S256x3200) hz, View.ld_unit_zero (S := S3200x2048) hz]
  sl_kernel_rfl

theorem out1_A_7_eq (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec Ideal S3x16 .f32) (x1 : Vec Ideal S256x3200 .bf16) (x2 : Vec Ideal S256x2048 .bf16) (x3 : Vec Ideal S3200x2048 .fp8e4m3) :
    out1_A_7 (F := Ideal) c i arg1 harg1 arg2 harg2 arg3 harg3 arg4 harg4 arg5 harg5 arg6 harg6 arg7 harg7 arg8 harg8 arg9 harg9 arg10 harg10 hc0 hc1 x0 x1 x2 x3 = codes52 (recip (bd x0)) (k1_pay34 x2) := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S16x128) hz, View.ld_unit_zero (S := S256x2048) hz, View.ld_unit_zero (S := S256x3200) hz, View.ld_unit_zero (S := S3200x2048) hz]
  sl_kernel_rfl

theorem out1_A_8_eq (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec Ideal S3x16 .f32) (x1 : Vec Ideal S256x3200 .bf16) (x2 : Vec Ideal S256x2048 .bf16) (x3 : Vec Ideal S3200x2048 .fp8e4m3) :
    out1_A_8 (F := Ideal) c i arg1 harg1 arg2 harg2 arg3 harg3 arg4 harg4 arg5 harg5 arg6 harg6 arg7 harg7 arg8 harg8 arg9 harg9 arg10 harg10 hc0 hc1 x0 x1 x2 x3 = foldX x1 := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S16x128) hz, View.ld_unit_zero (S := S256x2048) hz, View.ld_unit_zero (S := S256x3200) hz, View.ld_unit_zero (S := S3200x2048) hz]
  sl_kernel_rfl

theorem out1_A_9_eq (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : cond1_0 i) (hc1 : ¬cond1_1 i)
    (x0 : Vec Ideal S3x16 .f32) (x1 : Vec Ideal S256x3200 .bf16) (x2 : Vec Ideal S256x2048 .bf16) (x3 : Vec Ideal S3200x2048 .fp8e4m3) :
    out1_A_9 (F := Ideal) c i arg1 harg1 arg2 harg2 arg3 harg3 arg4 harg4 arg5 harg5 arg6 harg6 arg7 harg7 arg8 harg8 arg9 harg9 arg10 harg10 hc0 hc1 x0 x1 x2 x3 = foldD x2 := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S16x128) hz, View.ld_unit_zero (S := S256x2048) hz, View.ld_unit_zero (S := S256x3200) hz, View.ld_unit_zero (S := S3200x2048) hz]
  sl_kernel_rfl

theorem out1_B_4_eq (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec Ideal S3x16 .f32) (x1 : Vec Ideal S256x3200 .bf16) (x2 : Vec Ideal S256x2048 .bf16) (x3 : Vec Ideal S3200x2048 .fp8e4m3) (xo8 : Vec Ideal S16x128 .bf16) (xo9 : Vec Ideal S16x128 .bf16) :
    out1_B_4 (F := Ideal) c i arg1 harg1 arg2 harg2 arg3 harg3 arg4 harg4 arg5 harg5 arg6 harg6 arg7 harg7 arg8 harg8 arg9 harg9 arg10 harg10 hc0 hc1 x0 x1 x2 x3 xo8 xo9 = prodY x0 (codes43 (recip (bx x0)) (k1_pay33 x1)) x3 := by
  unfold out1_B_4
  rw [View.read_writes_eq_canon _ _ _ (cover1_B_4 c i arg1 harg1 arg2 harg2 arg3 harg3 arg4 harg4 arg5 harg5 arg6 harg6 arg7 harg7 arg8 harg8 arg9 harg9 arg10 harg10 hc0 hc1 x0 x1 x2 x3 xo8 xo9)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S16x128) hz, View.ld_unit_zero (S := S256x2048) hz, View.ld_unit_zero (S := S256x3200) hz, View.ld_unit_zero (S := S3200x2048) hz]
  sl_kernel_rfl

theorem out1_B_5_eq (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec Ideal S3x16 .f32) (x1 : Vec Ideal S256x3200 .bf16) (x2 : Vec Ideal S256x2048 .bf16) (x3 : Vec Ideal S3200x2048 .fp8e4m3) (xo8 : Vec Ideal S16x128 .bf16) (xo9 : Vec Ideal S16x128 .bf16) :
    out1_B_5 (F := Ideal) c i arg1 harg1 arg2 harg2 arg3 harg3 arg4 harg4 arg5 harg5 arg6 harg6 arg7 harg7 arg8 harg8 arg9 harg9 arg10 harg10 hc0 hc1 x0 x1 x2 x3 xo8 xo9 = prodX x0 (codes52 (recip (bd x0)) (k1_pay34 x2)) x3 := by
  unfold out1_B_5
  rw [View.read_writes_eq_canon _ _ _ (cover1_B_5 c i arg1 harg1 arg2 harg2 arg3 harg3 arg4 harg4 arg5 harg5 arg6 harg6 arg7 harg7 arg8 harg8 arg9 harg9 arg10 harg10 hc0 hc1 x0 x1 x2 x3 xo8 xo9)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S16x128) hz, View.ld_unit_zero (S := S256x2048) hz, View.ld_unit_zero (S := S256x3200) hz, View.ld_unit_zero (S := S3200x2048) hz]
  sl_kernel_rfl

theorem out1_B_6_eq (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec Ideal S3x16 .f32) (x1 : Vec Ideal S256x3200 .bf16) (x2 : Vec Ideal S256x2048 .bf16) (x3 : Vec Ideal S3200x2048 .fp8e4m3) (xo8 : Vec Ideal S16x128 .bf16) (xo9 : Vec Ideal S16x128 .bf16) :
    out1_B_6 (F := Ideal) c i arg1 harg1 arg2 harg2 arg3 harg3 arg4 harg4 arg5 harg5 arg6 harg6 arg7 harg7 arg8 harg8 arg9 harg9 arg10 harg10 hc0 hc1 x0 x1 x2 x3 xo8 xo9 = codes43 (recip (bx x0)) (k1_pay33 x1) := by
  unfold out1_B_6
  rw [View.read_writes_eq_canon _ _ _ (cover1_B_6 c i arg1 harg1 arg2 harg2 arg3 harg3 arg4 harg4 arg5 harg5 arg6 harg6 arg7 harg7 arg8 harg8 arg9 harg9 arg10 harg10 hc0 hc1 x0 x1 x2 x3 xo8 xo9)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S16x128) hz, View.ld_unit_zero (S := S256x2048) hz, View.ld_unit_zero (S := S256x3200) hz, View.ld_unit_zero (S := S3200x2048) hz]
  sl_kernel_rfl

theorem out1_B_7_eq (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec Ideal S3x16 .f32) (x1 : Vec Ideal S256x3200 .bf16) (x2 : Vec Ideal S256x2048 .bf16) (x3 : Vec Ideal S3200x2048 .fp8e4m3) (xo8 : Vec Ideal S16x128 .bf16) (xo9 : Vec Ideal S16x128 .bf16) :
    out1_B_7 (F := Ideal) c i arg1 harg1 arg2 harg2 arg3 harg3 arg4 harg4 arg5 harg5 arg6 harg6 arg7 harg7 arg8 harg8 arg9 harg9 arg10 harg10 hc0 hc1 x0 x1 x2 x3 xo8 xo9 = codes52 (recip (bd x0)) (k1_pay34 x2) := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 hc0 hc1 x0 x1 x2 x3 xo8 xo9)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S16x128) hz, View.ld_unit_zero (S := S256x2048) hz, View.ld_unit_zero (S := S256x3200) hz, View.ld_unit_zero (S := S3200x2048) hz]
  sl_kernel_rfl

theorem out1_B_8_eq (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec Ideal S3x16 .f32) (x1 : Vec Ideal S256x3200 .bf16) (x2 : Vec Ideal S256x2048 .bf16) (x3 : Vec Ideal S3200x2048 .fp8e4m3) (xo8 : Vec Ideal S16x128 .bf16) (xo9 : Vec Ideal S16x128 .bf16) :
    out1_B_8 (F := Ideal) c i arg1 harg1 arg2 harg2 arg3 harg3 arg4 harg4 arg5 harg5 arg6 harg6 arg7 harg7 arg8 harg8 arg9 harg9 arg10 harg10 hc0 hc1 x0 x1 x2 x3 xo8 xo9 = join xo8 (foldX x1) := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 hc0 hc1 x0 x1 x2 x3 xo8 xo9)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S16x128) hz, View.ld_unit_zero (S := S256x2048) hz, View.ld_unit_zero (S := S256x3200) hz, View.ld_unit_zero (S := S3200x2048) hz]
  sl_kernel_rfl

theorem out1_B_9_eq (c : Dev nD) (i : grid1.Coords) (arg1 : Memref sig .tc .smem S3x16 .f32) (harg1 : arg1.IsWhole) (arg2 : Memref sig .tc .vmem S256x3200 .bf16) (harg2 : arg2.IsWhole) (arg3 : Memref sig .tc .vmem S256x2048 .bf16) (harg3 : arg3.IsWhole) (arg4 : Memref sig .tc .vmem S3200x2048 .fp8e4m3) (harg4 : arg4.IsWhole) (arg5 : Memref sig .tc .vmem S256x2048 .bf16) (harg5 : arg5.IsWhole) (arg6 : Memref sig .tc .vmem S256x3200 .bf16) (harg6 : arg6.IsWhole) (arg7 : Memref sig .tc .vmem S256x3200 .fp8e4m3) (harg7 : arg7.IsWhole) (arg8 : Memref sig .tc .vmem S256x2048 .fp8e5m2) (harg8 : arg8.IsWhole) (arg9 : Memref sig .tc .vmem S16x128 .bf16) (harg9 : arg9.IsWhole) (arg10 : Memref sig .tc .vmem S16x128 .bf16) (harg10 : arg10.IsWhole) (hc0 : ¬cond1_0 i) (hc1 : cond1_1 i)
    (x0 : Vec Ideal S3x16 .f32) (x1 : Vec Ideal S256x3200 .bf16) (x2 : Vec Ideal S256x2048 .bf16) (x3 : Vec Ideal S3200x2048 .fp8e4m3) (xo8 : Vec Ideal S16x128 .bf16) (xo9 : Vec Ideal S16x128 .bf16) :
    out1_B_9 (F := Ideal) c i arg1 harg1 arg2 harg2 arg3 harg3 arg4 harg4 arg5 harg5 arg6 harg6 arg7 harg7 arg8 harg8 arg9 harg9 arg10 harg10 hc0 hc1 x0 x1 x2 x3 xo8 xo9 = join xo9 (foldD x2) := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 hc0 hc1 x0 x1 x2 x3 xo8 xo9)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S16x128) hz, View.ld_unit_zero (S := S256x2048) hz, View.ld_unit_zero (S := S256x3200) hz, View.ld_unit_zero (S := S3200x2048) hz]
  sl_kernel_rfl

end Cert.KernelIdeal.Value
-- ==== Proof.Value.Arr1.lean ====
module

public import proofs.«01_k».proof.Proof.Value.Out1
public import proofs.«01_k».proof.Proof.Value.Pay
public import proofs.«01_k».proof.Proof.Value.Whole

/-! The arrays the second call leaves: the token codes, the two products by row blocks, and the running maxima. -/

@[expose] public section

set_option maxRecDepth 65536

noncomputable section

namespace Cert.KernelIdeal.Value

open Idealize.ShloMosaic Idealize.ShloMosaic.TcCoe Idealize.SL.Sem
open Cert.KernelIdeal Cert.KernelIdeal.Gen Cert.Scale

variable (V : (c : Dev nD) → (b : Ref sig .tc) → Buf (Elt Ideal) ((c : Thread nD τ).loc b))

/-- Input window 0's block is the whole array at every grid point. -/
theorem iblk1_0_eq (c : Dev nD) (t : Fin cfg1.N) : (iblk1 V c 0 t : Vec Ideal S3x16 .f32) = V c main_arg3 := by
  have hz' : (fun a => win1_0.index t a * main_arg3.ty.shape.size a) = fun _ => 0 := funext fun a => by
    fin_cases a <;> exact Nat.zero_mul _
  exact Memref.read_access_unit_zero (Elt Ideal) main_arg3 hz' (fun a => by rw [congrFun hz' a]; simp) (V c main_arg3)

/-- Input window 3's block is the whole array at every grid point. -/
theorem iblk1_3_eq (c : Dev nD) (t : Fin cfg1.N) : (iblk1 V c 3 t : Vec Ideal S3200x2048 .fp8e4m3) = V c main_v2_0 := by
  have hz' : (fun a => win1_3.index t a * main_v2_0.ty.shape.size a) = fun _ => 0 := funext fun a => by
    fin_cases a <;> exact Nat.zero_mul _
  exact Memref.read_access_unit_zero (Elt Ideal) main_v2_0 hz' (fun a => by rw [congrFun hz' a]; simp) (V c main_v2_0)

/-- Every index of the array lies in the block of some grid point. -/
theorem cover1_1 (i : S6144x3200.Idx) : ∃ t : Fin cfg1.N, i ∈ ((cfg1.win 1).blk t).view.set := by
  have h0 : (i 0 : Nat) < 6144 := (i 0).isLt
  have h1 : (i 1 : Nat) < 3200 := (i 1).isLt
  have hN : cfg1.N = 24 := N_1
  have e : ∀ t : Fin grid1.N, (win1_1.index t 0 * win1_1.size 0 = 256 * t.val ∧ win1_1.xsize (grid1.coords t) 0 = 256) ∧ (win1_1.index t 1 * win1_1.size 1 = 0 ∧ win1_1.xsize (grid1.coords t) 1 = 3200) := by
    decide +kernel
  obtain ⟨t, ht⟩ : ∃ t : Fin cfg1.N, t.val = (i 0 : Nat) / 256 := ⟨⟨(i 0 : Nat) / 256, by omega⟩, rfl⟩
  refine ⟨t, ?_⟩
  show i ∈ ((View.whole main_v0).slice (win1_1.rect t)).set
  rw [View.set_slice_whole, Rect.mem_set_unit]
  intro a
  match a with
  | ⟨0, _⟩ =>
    show win1_1.index t 0 * win1_1.size 0 ≤ (i 0 : Nat) ∧ (i 0 : Nat) < win1_1.index t 0 * win1_1.size 0 + win1_1.xsize (grid1.coords t) 0
    rw [(e t).1.1, (e t).1.2]; omega
  | ⟨1, _⟩ =>
    show win1_1.index t 1 * win1_1.size 1 ≤ (i 1 : Nat) ∧ (i 1 : Nat) < win1_1.index t 1 * win1_1.size 1 + win1_1.xsize (grid1.coords t) 1
    rw [(e t).2.1, (e t).2.2]; omega

/-- Every index of the array lies in the block of some grid point. -/
theorem cover1_2 (i : S6144x2048.Idx) : ∃ t : Fin cfg1.N, i ∈ ((cfg1.win 2).blk t).view.set := by
  have h0 : (i 0 : Nat) < 6144 := (i 0).isLt
  have h1 : (i 1 : Nat) < 2048 := (i 1).isLt
  have hN : cfg1.N = 24 := N_1
  have e : ∀ t : Fin grid1.N, (win1_2.index t 0 * win1_2.size 0 = 256 * t.val ∧ win1_2.xsize (grid1.coords t) 0 = 256) ∧ (win1_2.index t 1 * win1_2.size 1 = 0 ∧ win1_2.xsize (grid1.coords t) 1 = 2048) := by
    decide +kernel
  obtain ⟨t, ht⟩ : ∃ t : Fin cfg1.N, t.val = (i 0 : Nat) / 256 := ⟨⟨(i 0 : Nat) / 256, by omega⟩, rfl⟩
  refine ⟨t, ?_⟩
  show i ∈ ((View.whole main_v1).slice (win1_2.rect t)).set
  rw [View.set_slice_whole, Rect.mem_set_unit]
  intro a
  match a with
  | ⟨0, _⟩ =>
    show win1_2.index t 0 * win1_2.size 0 ≤ (i 0 : Nat) ∧ (i 0 : Nat) < win1_2.index t 0 * win1_2.size 0 + win1_2.xsize (grid1.coords t) 0
    rw [(e t).1.1, (e t).1.2]; omega
  | ⟨1, _⟩ =>
    show win1_2.index t 1 * win1_2.size 1 ≤ (i 1 : Nat) ∧ (i 1 : Nat) < win1_2.index t 1 * win1_2.size 1 + win1_2.xsize (grid1.coords t) 1
    rw [(e t).2.1, (e t).2.2]; omega

/-- Every index of the array lies in the block of some grid point. -/
theorem cover1_4 (i : S6144x2048.Idx) : ∃ t : Fin cfg1.N, (cfg1.win 4).flush t = true ∧ i ∈ ((cfg1.win 4).blk t).view.set := by
  have h0 : (i 0 : Nat) < 6144 := (i 0).isLt
  have h1 : (i 1 : Nat) < 2048 := (i 1).isLt
  have hN : cfg1.N = 24 := N_1
  have e : ∀ t : Fin grid1.N, (win1_4.index t 0 * win1_4.size 0 = 256 * t.val ∧ win1_4.xsize (grid1.coords t) 0 = 256) ∧ (win1_4.index t 1 * win1_4.size 1 = 0 ∧ win1_4.xsize (grid1.coords t) 1 = 2048) := by
    decide +kernel
  obtain ⟨t, ht⟩ : ∃ t : Fin cfg1.N, t.val = (i 0 : Nat) / 256 := ⟨⟨(i 0 : Nat) / 256, by omega⟩, rfl⟩
  refine ⟨t, flush1_4 _, ?_⟩
  show i ∈ ((View.whole main_v3_0).slice (win1_4.rect t)).set
  rw [View.set_slice_whole, Rect.mem_set_unit]
  intro a
  match a with
  | ⟨0, _⟩ =>
    show win1_4.index t 0 * win1_4.size 0 ≤ (i 0 : Nat) ∧ (i 0 : Nat) < win1_4.index t 0 * win1_4.size 0 + win1_4.xsize (grid1.coords t) 0
    rw [(e t).1.1, (e t).1.2]; omega
  | ⟨1, _⟩ =>
    show win1_4.index t 1 * win1_4.size 1 ≤ (i 1 : Nat) ∧ (i 1 : Nat) < win1_4.index t 1 * win1_4.size 1 + win1_4.xsize (grid1.coords t) 1
    rw [(e t).2.1, (e t).2.2]; omega

/-- Every index of the array lies in the block of some grid point. -/
theorem cover1_5 (i : S6144x3200.Idx) : ∃ t : Fin cfg1.N, (cfg1.win 5).flush t = true ∧ i ∈ ((cfg1.win 5).blk t).view.set := by
  have h0 : (i 0 : Nat) < 6144 := (i 0).isLt
  have h1 : (i 1 : Nat) < 3200 := (i 1).isLt
  have hN : cfg1.N = 24 := N_1
  have e : ∀ t : Fin grid1.N, (win1_5.index t 0 * win1_5.size 0 = 256 * t.val ∧ win1_5.xsize (grid1.coords t) 0 = 256) ∧ (win1_5.index t 1 * win1_5.size 1 = 0 ∧ win1_5.xsize (grid1.coords t) 1 = 3200) := by
    decide +kernel
  obtain ⟨t, ht⟩ : ∃ t : Fin cfg1.N, t.val = (i 0 : Nat) / 256 := ⟨⟨(i 0 : Nat) / 256, by omega⟩, rfl⟩
  refine ⟨t, flush1_5 _, ?_⟩
  show i ∈ ((View.whole main_v3_1).slice (win1_5.rect t)).set
  rw [View.set_slice_whole, Rect.mem_set_unit]
  intro a
  match a with
  | ⟨0, _⟩ =>
    show win1_5.index t 0 * win1_5.size 0 ≤ (i 0 : Nat) ∧ (i 0 : Nat) < win1_5.index t 0 * win1_5.size 0 + win1_5.xsize (grid1.coords t) 0
    rw [(e t).1.1, (e t).1.2]; omega
  | ⟨1, _⟩ =>
    show win1_5.index t 1 * win1_5.size 1 ≤ (i 1 : Nat) ∧ (i 1 : Nat) < win1_5.index t 1 * win1_5.size 1 + win1_5.xsize (grid1.coords t) 1
    rw [(e t).2.1, (e t).2.2]; omega

/-- Every index of the array lies in the block of some grid point. -/
theorem cover1_6 (i : S6144x3200.Idx) : ∃ t : Fin cfg1.N, (cfg1.win 6).flush t = true ∧ i ∈ ((cfg1.win 6).blk t).view.set := by
  have h0 : (i 0 : Nat) < 6144 := (i 0).isLt
  have h1 : (i 1 : Nat) < 3200 := (i 1).isLt
  have hN : cfg1.N = 24 := N_1
  have e : ∀ t : Fin grid1.N, (win1_6.index t 0 * win1_6.size 0 = 256 * t.val ∧ win1_6.xsize (grid1.coords t) 0 = 256) ∧ (win1_6.index t 1 * win1_6.size 1 = 0 ∧ win1_6.xsize (grid1.coords t) 1 = 3200) := by
    decide +kernel
  obtain ⟨t, ht⟩ : ∃ t : Fin cfg1.N, t.val = (i 0 : Nat) / 256 := ⟨⟨(i 0 : Nat) / 256, by omega⟩, rfl⟩
  refine ⟨t, flush1_6 _, ?_⟩
  show i ∈ ((View.whole main_v3_2).slice (win1_6.rect t)).set
  rw [View.set_slice_whole, Rect.mem_set_unit]
  intro a
  match a with
  | ⟨0, _⟩ =>
    show win1_6.index t 0 * win1_6.size 0 ≤ (i 0 : Nat) ∧ (i 0 : Nat) < win1_6.index t 0 * win1_6.size 0 + win1_6.xsize (grid1.coords t) 0
    rw [(e t).1.1, (e t).1.2]; omega
  | ⟨1, _⟩ =>
    show win1_6.index t 1 * win1_6.size 1 ≤ (i 1 : Nat) ∧ (i 1 : Nat) < win1_6.index t 1 * win1_6.size 1 + win1_6.xsize (grid1.coords t) 1
    rw [(e t).2.1, (e t).2.2]; omega

/-- Every index of the array lies in the block of some grid point. -/
theorem cover1_7 (i : S6144x2048.Idx) : ∃ t : Fin cfg1.N, (cfg1.win 7).flush t = true ∧ i ∈ ((cfg1.win 7).blk t).view.set := by
  have h0 : (i 0 : Nat) < 6144 := (i 0).isLt
  have h1 : (i 1 : Nat) < 2048 := (i 1).isLt
  have hN : cfg1.N = 24 := N_1
  have e : ∀ t : Fin grid1.N, (win1_7.index t 0 * win1_7.size 0 = 256 * t.val ∧ win1_7.xsize (grid1.coords t) 0 = 256) ∧ (win1_7.index t 1 * win1_7.size 1 = 0 ∧ win1_7.xsize (grid1.coords t) 1 = 2048) := by
    decide +kernel
  obtain ⟨t, ht⟩ : ∃ t : Fin cfg1.N, t.val = (i 0 : Nat) / 256 := ⟨⟨(i 0 : Nat) / 256, by omega⟩, rfl⟩
  refine ⟨t, flush1_7 _, ?_⟩
  show i ∈ ((View.whole main_v3_3).slice (win1_7.rect t)).set
  rw [View.set_slice_whole, Rect.mem_set_unit]
  intro a
  match a with
  | ⟨0, _⟩ =>
    show win1_7.index t 0 * win1_7.size 0 ≤ (i 0 : Nat) ∧ (i 0 : Nat) < win1_7.index t 0 * win1_7.size 0 + win1_7.xsize (grid1.coords t) 0
    rw [(e t).1.1, (e t).1.2]; omega
  | ⟨1, _⟩ =>
    show win1_7.index t 1 * win1_7.size 1 ≤ (i 1 : Nat) ∧ (i 1 : Nat) < win1_7.index t 1 * win1_7.size 1 + win1_7.xsize (grid1.coords t) 1
    rw [(e t).2.1, (e t).2.2]; omega

/-- Window 1's block at a grid point, entry by entry. -/
theorem read1_1 (G : S6144x3200.Idx → Elt Ideal .bf16) (t : Fin cfg1.N) (j : S256x3200.Idx) :
    (((cfg1.win 1).blk t).view.read (Elt Ideal) G : S256x3200.Idx → Elt Ideal .bf16) j
      = G (ix2 (⟨256 * t.val + (j 0).val, by have := t.isLt; have hN : cfg1.N = 24 := N_1; have : (j 0).val < 256 := (j 0).isLt; omega⟩ : Fin 6144) (j 1)) := by
  have e : ∀ t : Fin grid1.N, win1_1.index t 0 = t.val := by decide +kernel
  rw [View.read_apply]
  refine congrArg G (funext fun a => Fin.ext ?_)
  match a with
  | ⟨0, _⟩ => show win1_1.index t 0 * 256 + 1 * (j 0).val = 256 * t.val + (j 0).val; rw [e t]; omega
  | ⟨1, _⟩ => show win1_1.index t 1 * 3200 + 1 * (j 1).val = (j 1).val; rw [show win1_1.index t 1 = 0 from rfl]; omega

/-- Window 2's block at a grid point, entry by entry. -/
theorem read1_2 (G : S6144x2048.Idx → Elt Ideal .bf16) (t : Fin cfg1.N) (j : S256x2048.Idx) :
    (((cfg1.win 2).blk t).view.read (Elt Ideal) G : S256x2048.Idx → Elt Ideal .bf16) j
      = G (ix2 (⟨256 * t.val + (j 0).val, by have := t.isLt; have hN : cfg1.N = 24 := N_1; have : (j 0).val < 256 := (j 0).isLt; omega⟩ : Fin 6144) (j 1)) := by
  have e : ∀ t : Fin grid1.N, win1_2.index t 0 = t.val := by decide +kernel
  rw [View.read_apply]
  refine congrArg G (funext fun a => Fin.ext ?_)
  match a with
  | ⟨0, _⟩ => show win1_2.index t 0 * 256 + 1 * (j 0).val = 256 * t.val + (j 0).val; rw [e t]; omega
  | ⟨1, _⟩ => show win1_2.index t 1 * 2048 + 1 * (j 1).val = (j 1).val; rw [show win1_2.index t 1 = 0 from rfl]; omega

/-- Window 4's block at a grid point, entry by entry. -/
theorem read1_4 (G : S6144x2048.Idx → Elt Ideal .bf16) (t : Fin cfg1.N) (j : S256x2048.Idx) :
    (((cfg1.win 4).blk t).view.read (Elt Ideal) G : S256x2048.Idx → Elt Ideal .bf16) j
      = G (ix2 (⟨256 * t.val + (j 0).val, by have := t.isLt; have hN : cfg1.N = 24 := N_1; have : (j 0).val < 256 := (j 0).isLt; omega⟩ : Fin 6144) (j 1)) := by
  have e : ∀ t : Fin grid1.N, win1_4.index t 0 = t.val := by decide +kernel
  rw [View.read_apply]
  refine congrArg G (funext fun a => Fin.ext ?_)
  match a with
  | ⟨0, _⟩ => show win1_4.index t 0 * 256 + 1 * (j 0).val = 256 * t.val + (j 0).val; rw [e t]; omega
  | ⟨1, _⟩ => show win1_4.index t 1 * 2048 + 1 * (j 1).val = (j 1).val; rw [show win1_4.index t 1 = 0 from rfl]; omega

/-- Window 5's block at a grid point, entry by entry. -/
theorem read1_5 (G : S6144x3200.Idx → Elt Ideal .bf16) (t : Fin cfg1.N) (j : S256x3200.Idx) :
    (((cfg1.win 5).blk t).view.read (Elt Ideal) G : S256x3200.Idx → Elt Ideal .bf16) j
      = G (ix2 (⟨256 * t.val + (j 0).val, by have := t.isLt; have hN : cfg1.N = 24 := N_1; have : (j 0).val < 256 := (j 0).isLt; omega⟩ : Fin 6144) (j 1)) := by
  have e : ∀ t : Fin grid1.N, win1_5.index t 0 = t.val := by decide +kernel
  rw [View.read_apply]
  refine congrArg G (funext fun a => Fin.ext ?_)
  match a with
  | ⟨0, _⟩ => show win1_5.index t 0 * 256 + 1 * (j 0).val = 256 * t.val + (j 0).val; rw [e t]; omega
  | ⟨1, _⟩ => show win1_5.index t 1 * 3200 + 1 * (j 1).val = (j 1).val; rw [show win1_5.index t 1 = 0 from rfl]; omega

/-- Every block of the forward result. -/
theorem outs1_4 (c : Dev nD) (t : Fin cfg1.N) : (outsAt1 V c t.val t.isLt).1 = (prodY (V c main_arg3) (codes43 (recip (bx (V c main_arg3))) (iblk1 V c 1 t)) (V c main_v2_0) : Vec Ideal S256x2048 .bf16) := by
  have hN : t.val < 24 := lt_of_lt_of_eq t.isLt (show cfg1.N = 24 from N_1)
  by_cases h : 1 ≤ t.val
  · rw [outsAt1_B V c t (by omega) h]
    dsimp only
    rw [out1_B_4_eq, iblk1_0_eq, iblk1_3_eq, k1_pay33, shapeCast_self]
  · rw [outsAt1_A V c t (by omega) h]
    dsimp only
    rw [out1_A_4_eq, iblk1_0_eq, iblk1_3_eq, k1_pay33, shapeCast_self]

/-- Every block of the input gradient. -/
theorem outs1_5 (c : Dev nD) (t : Fin cfg1.N) : (outsAt1 V c t.val t.isLt).2.1 = (prodX (V c main_arg3) (codes52 (recip (bd (V c main_arg3))) (iblk1 V c 2 t)) (V c main_v2_0) : Vec Ideal S256x3200 .bf16) := by
  have hN : t.val < 24 := lt_of_lt_of_eq t.isLt (show cfg1.N = 24 from N_1)
  by_cases h : 1 ≤ t.val
  · rw [outsAt1_B V c t (by omega) h]
    dsimp only
    rw [out1_B_5_eq, iblk1_0_eq, iblk1_3_eq, k1_pay34, shapeCast_self]
  · rw [outsAt1_A V c t (by omega) h]
    dsimp only
    rw [out1_A_5_eq, iblk1_0_eq, iblk1_3_eq, k1_pay34, shapeCast_self]

/-- Every block of `x` codes. -/
theorem outs1_6 (c : Dev nD) (t : Fin cfg1.N) : (outsAt1 V c t.val t.isLt).2.2.1 = (codes43 (recip (bx (V c main_arg3))) (iblk1 V c 1 t) : Vec Ideal S256x3200 .fp8e4m3) := by
  have hN : t.val < 24 := lt_of_lt_of_eq t.isLt (show cfg1.N = 24 from N_1)
  by_cases h : 1 ≤ t.val
  · rw [outsAt1_B V c t (by omega) h]
    dsimp only
    rw [out1_B_6_eq, iblk1_0_eq, k1_pay33, shapeCast_self]
  · rw [outsAt1_A V c t (by omega) h]
    dsimp only
    rw [out1_A_6_eq, iblk1_0_eq, k1_pay33, shapeCast_self]

/-- Every block of `dy` codes. -/
theorem outs1_7 (c : Dev nD) (t : Fin cfg1.N) : (outsAt1 V c t.val t.isLt).2.2.2.1 = (codes52 (recip (bd (V c main_arg3))) (iblk1 V c 2 t) : Vec Ideal S256x2048 .fp8e5m2) := by
  have hN : t.val < 24 := lt_of_lt_of_eq t.isLt (show cfg1.N = 24 from N_1)
  by_cases h : 1 ≤ t.val
  · rw [outsAt1_B V c t (by omega) h]
    dsimp only
    rw [out1_B_7_eq, iblk1_0_eq, k1_pay34, shapeCast_self]
  · rw [outsAt1_A V c t (by omega) h]
    dsimp only
    rw [out1_A_7_eq, iblk1_0_eq, k1_pay34, shapeCast_self]

/-- The array of `x` codes. -/
theorem arr1_6 (c : Dev nD) : (dat1 V c).arrAt 6 cfg1.N = codes43 (s := S6144x3200) (recip (bx (V c main_arg3))) (V c main_v0) := by
  refine (dat1 V c).arrAt_eq_of_cover 6 _ (fun t _ => ?_) cover1_6
  show (cfg1.win 6).cut (grid1.coords t) ((dat1 V c).after 6 t) = _
  rw [after1_6, outs1_6]
  rfl

/-- The array of `dy` codes. -/
theorem arr1_7 (c : Dev nD) : (dat1 V c).arrAt 7 cfg1.N = codes52 (s := S6144x2048) (recip (bd (V c main_arg3))) (V c main_v1) := by
  refine (dat1 V c).arrAt_eq_of_cover 7 _ (fun t _ => ?_) cover1_7
  show (cfg1.win 7).cut (grid1.coords t) ((dat1 V c).after 7 t) = _
  rw [after1_7, outs1_7]
  rfl

/-- The forward result. -/
theorem arr1_4 (c : Dev nD) : (dat1 V c).arrAt 4 cfg1.N = wholeY (scale (bx (V c main_arg3)) * scale (bw (V c main_arg3))) (codes43 (s := S6144x3200) (recip (bx (V c main_arg3))) (V c main_v0)) (V c main_v2_0) := by
  refine (dat1 V c).arrAt_eq_of_cover 4 _ (fun t _ => ?_) cover1_4
  show (cfg1.win 4).cut (grid1.coords t) ((dat1 V c).after 4 t) = _
  rw [after1_4, outs1_4]
  rw [prodY_eq]
  funext j
  refine Eq.trans ?_ (read1_4 _ t j).symm
  unfold wholeY
  refine congrArg (· * _) (Finset.sum_congr rfl fun k _ => congrArg₂ (· * ·) ?_ rfl)
  exact congrArg (fun v : EReal => codes43 (recip (bx (V c main_arg3))) (s := S1) (fun _ => v) (ix1 0)) (read1_1 _ t (ix2 (j 0) k))

/-- The input gradient. -/
theorem arr1_5 (c : Dev nD) : (dat1 V c).arrAt 5 cfg1.N = wholeX (scale (bd (V c main_arg3)) * scale (bw (V c main_arg3))) (codes52 (s := S6144x2048) (recip (bd (V c main_arg3))) (V c main_v1)) (V c main_v2_0) := by
  refine (dat1 V c).arrAt_eq_of_cover 5 _ (fun t _ => ?_) cover1_5
  show (cfg1.win 5).cut (grid1.coords t) ((dat1 V c).after 5 t) = _
  rw [after1_5, outs1_5]
  rw [prodX_eq]
  funext j
  refine Eq.trans ?_ (read1_5 _ t j).symm
  unfold wholeX
  refine congrArg (· * _) (Finset.sum_congr rfl fun k _ => congrArg₂ (· * ·) ?_ rfl)
  exact congrArg (fun v : EReal => codes52 (recip (bd (V c main_arg3))) (s := S1) (fun _ => v) (ix1 0)) (read1_2 _ t (ix2 (j 0) k))

/-- Output window 8 is written back once, at the last grid point, so the array ends holding what that point left. -/
theorem arr1_8 (c : Dev nD) (G : Vec Ideal S16x128 .bf16) (hG : ∀ t : Fin cfg1.N, t.val = 23 → (dat1 V c).after 8 t = G) :
    (dat1 V c).arrAt 8 cfg1.N = G := by
  have hN : cfg1.N = 24 := N_1
  have hz' : ∀ t, (fun a => win1_8.index t a * main_v3_4.ty.shape.size a) = fun _ => 0 := fun t => funext fun a => by
    fin_cases a <;> exact Nat.zero_mul _
  refine (dat1 V c).arrAt_eq_of_cover 8 G (fun t hf => ?_) (fun i => ⟨⟨23, by omega⟩, (flush1_8 _).mpr rfl, ?_⟩)
  · have h3 := (flush1_8 t).mp hf
    have h4 := t.isLt
    show (cfg1.win 8).cut (grid1.coords t) ((dat1 V c).after 8 t) = _
    rw [hG t (by omega)]
    exact (Memref.read_access_unit_zero (Elt Ideal) main_v3_4 (hz' t) (fun a => by rw [congrFun (hz' t) a]; simp) G).symm
  · have h : 23 < cfg1.N := by omega
    show i ∈ ((View.whole main_v3_4).slice (win1_8.rect ⟨23, h⟩)).set
    rw [View.set_slice_whole, Rect.mem_set_unit]
    intro a
    have h0 : win1_8.index ⟨23, h⟩ a * main_v3_4.ty.shape.size a = 0 := congrFun (hz' _) a
    have h1 : (i a : Nat) < main_v3_4.ty.shape.size a := (i a).isLt
    exact ⟨by show win1_8.index ⟨23, h⟩ a * main_v3_4.ty.shape.size a ≤ _; omega, by show _ < win1_8.index ⟨23, h⟩ a * main_v3_4.ty.shape.size a + main_v3_4.ty.shape.size a; omega⟩

/-- Output window 9 is written back once, at the last grid point, so the array ends holding what that point left. -/
theorem arr1_9 (c : Dev nD) (G : Vec Ideal S16x128 .bf16) (hG : ∀ t : Fin cfg1.N, t.val = 23 → (dat1 V c).after 9 t = G) :
    (dat1 V c).arrAt 9 cfg1.N = G := by
  have hN : cfg1.N = 24 := N_1
  have hz' : ∀ t, (fun a => win1_9.index t a * main_v3_5.ty.shape.size a) = fun _ => 0 := fun t => funext fun a => by
    fin_cases a <;> exact Nat.zero_mul _
  refine (dat1 V c).arrAt_eq_of_cover 9 G (fun t hf => ?_) (fun i => ⟨⟨23, by omega⟩, (flush1_9 _).mpr rfl, ?_⟩)
  · have h3 := (flush1_9 t).mp hf
    have h4 := t.isLt
    show (cfg1.win 9).cut (grid1.coords t) ((dat1 V c).after 9 t) = _
    rw [hG t (by omega)]
    exact (Memref.read_access_unit_zero (Elt Ideal) main_v3_5 (hz' t) (fun a => by rw [congrFun (hz' t) a]; simp) G).symm
  · have h : 23 < cfg1.N := by omega
    show i ∈ ((View.whole main_v3_5).slice (win1_9.rect ⟨23, h⟩)).set
    rw [View.set_slice_whole, Rect.mem_set_unit]
    intro a
    have h0 : win1_9.index ⟨23, h⟩ a * main_v3_5.ty.shape.size a = 0 := congrFun (hz' _) a
    have h1 : (i a : Nat) < main_v3_5.ty.shape.size a := (i a).isLt
    exact ⟨by show win1_9.index ⟨23, h⟩ a * main_v3_5.ty.shape.size a ≤ _; omega, by show _ < win1_9.index ⟨23, h⟩ a * main_v3_5.ty.shape.size a + main_v3_5.ty.shape.size a; omega⟩

/-- Equal points leave equal blocks. -/
theorem outs_congr1 (c : Dev nD) (a b : ℕ) (ha : a < cfg1.N) (hb : b < cfg1.N) (h : a = b) : outsAt1 V c a ha = outsAt1 V c b hb := by
  subst h
  rfl

/-- What the running maximum is bounded by after a point: every block up to it is. -/
theorem bnd1_8 (c : Dev nD) (z : EReal) : ∀ (k : ℕ) (hk : k < cfg1.N),
    Bnd (outsAt1 V c k hk).2.2.2.2.1 z ↔ ∀ t : Fin cfg1.N, t.val ≤ k → Bnd (absf (F := Ideal) (φ := .bf16) (iblk1 V c 1 t : Vec Ideal S256x3200 .bf16)) z
  | 0, hk => by
    rw [outsAt1_A V c ⟨0, hk⟩ rfl (by dsimp only; omega)]
    dsimp only
    rw [out1_A_8_eq, bnd_foldX]
    refine ⟨fun h t ht => ?_, fun h => h _ (le_refl _)⟩
    obtain rfl : t = ⟨0, hk⟩ := Fin.ext (by dsimp only; omega)
    exact h
  | k + 1, hk => by
    have hN : cfg1.N = 24 := N_1
    rw [outsAt1_B V c ⟨k + 1, hk⟩ (by dsimp only; omega) (by dsimp only; omega)]
    dsimp only
    rw [out1_B_8_eq, bnd_join, bnd_foldX]
    have ih := bnd1_8 c z k (Nat.lt_of_succ_lt hk)
    refine (and_congr_left' ih).trans ⟨fun h t ht => ?_, fun h => ⟨fun t ht => h t (by omega), h _ (le_refl _)⟩⟩
    by_cases he : t.val = k + 1
    · obtain rfl : t = ⟨k + 1, hk⟩ := Fin.ext he
      exact h.2
    · exact h.1 t (by omega)

/-- The array of running maxima is bounded by `z` exactly when every absolute value of the whole array is. -/
theorem top1_8 (c : Dev nD) (z : EReal) :
    Bnd ((dat1 V c).arrAt 8 cfg1.N : Vec Ideal S16x128 .bf16) z ↔ Bnd (absf (F := Ideal) (φ := .bf16) (V c main_v0 : Vec Ideal S6144x3200 .bf16)) z := by
  have hN : cfg1.N = 24 := N_1
  have h : 23 < cfg1.N := by omega
  rw [arr1_8 V c (outsAt1 V c 23 h).2.2.2.2.1 fun t ht => by
    rw [after1_8, outs_congr1 V c _ _ t.isLt h ht]]
  rw [bnd1_8]
  constructor
  · intro hb i
    obtain ⟨t, ht⟩ := cover1_1 i
    obtain ⟨j, _, rfl⟩ := Finset.mem_map.mp ht
    exact hb t (by have := t.isLt; omega) j
  · intro hb t _ j
    exact hb _

/-- What the running maximum is bounded by after a point: every block up to it is. -/
theorem bnd1_9 (c : Dev nD) (z : EReal) : ∀ (k : ℕ) (hk : k < cfg1.N),
    Bnd (outsAt1 V c k hk).2.2.2.2.2 z ↔ ∀ t : Fin cfg1.N, t.val ≤ k → Bnd (absf (F := Ideal) (φ := .bf16) (iblk1 V c 2 t : Vec Ideal S256x2048 .bf16)) z
  | 0, hk => by
    rw [outsAt1_A V c ⟨0, hk⟩ rfl (by dsimp only; omega)]
    dsimp only
    rw [out1_A_9_eq, bnd_foldD]
    refine ⟨fun h t ht => ?_, fun h => h _ (le_refl _)⟩
    obtain rfl : t = ⟨0, hk⟩ := Fin.ext (by dsimp only; omega)
    exact h
  | k + 1, hk => by
    have hN : cfg1.N = 24 := N_1
    rw [outsAt1_B V c ⟨k + 1, hk⟩ (by dsimp only; omega) (by dsimp only; omega)]
    dsimp only
    rw [out1_B_9_eq, bnd_join, bnd_foldD]
    have ih := bnd1_9 c z k (Nat.lt_of_succ_lt hk)
    refine (and_congr_left' ih).trans ⟨fun h t ht => ?_, fun h => ⟨fun t ht => h t (by omega), h _ (le_refl _)⟩⟩
    by_cases he : t.val = k + 1
    · obtain rfl : t = ⟨k + 1, hk⟩ := Fin.ext he
      exact h.2
    · exact h.1 t (by omega)

/-- The array of running maxima is bounded by `z` exactly when every absolute value of the whole array is. -/
theorem top1_9 (c : Dev nD) (z : EReal) :
    Bnd ((dat1 V c).arrAt 9 cfg1.N : Vec Ideal S16x128 .bf16) z ↔ Bnd (absf (F := Ideal) (φ := .bf16) (V c main_v1 : Vec Ideal S6144x2048 .bf16)) z := by
  have hN : cfg1.N = 24 := N_1
  have h : 23 < cfg1.N := by omega
  rw [arr1_9 V c (outsAt1 V c 23 h).2.2.2.2.2 fun t ht => by
    rw [after1_9, outs_congr1 V c _ _ t.isLt h ht]]
  rw [bnd1_9]
  constructor
  · intro hb i
    obtain ⟨t, ht⟩ := cover1_2 i
    obtain ⟨j, _, rfl⟩ := Finset.mem_map.mp ht
    exact hb t (by have := t.isLt; omega) j
  · intro hb t _ j
    exact hb _

end Cert.KernelIdeal.Value
-- ==== Proof.Value.Out2.lean ====
module

public import proofs.«01_k».proof.Proof.Frame.Region2
public import proofs.«01_k».proof.Proof.Value.Parts
public import Idealize.ShloMosaic.Lib.Tactic

/-! What each output block of kernel 2 holds after its body, at exact arithmetic, in the parts of `Value.Parts`:
case A is the first grid point, case B the others. -/

@[expose] public section

set_option maxRecDepth 65536

noncomputable section

namespace Cert.KernelIdeal.Value

open Idealize.ShloMosaic Idealize.ShloMosaic.TcCoe Idealize.ShloMosaic.ValueIdx Idealize.SL.Sem
open Cert.KernelIdeal Cert.KernelIdeal.Gen Cert.Scale

theorem out2_A_8_eq (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec Ideal S3x16 .f32) (x1 : Vec Ideal S1 .i32) (x2 : Vec Ideal S3x16 .f32) (x3 : Vec Ideal S16x128 .bf16) (x4 : Vec Ideal S16x128 .bf16) (x5 : Vec Ideal S16x128 .bf16) (x6 : Vec Ideal S6144x640 .fp8e4m3) (x7 : Vec Ideal S6144x2048 .fp8e5m2) :
    out2_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = prodW x0 x6 x7 := by
  unfold out2_A_8
  rw [View.read_writes_eq_canon _ _ _ (cover2_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun2_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x128) hz, View.ld_unit_zero (S := S3x16) hz, View.ld_unit_zero (S := S6144x2048) hz, View.ld_unit_zero (S := S6144x640) hz, View.ld_unit_zero (S := S640x2048) hz]
  sl_kernel_rfl

theorem out2_A_9_eq (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec Ideal S3x16 .f32) (x1 : Vec Ideal S1 .i32) (x2 : Vec Ideal S3x16 .f32) (x3 : Vec Ideal S16x128 .bf16) (x4 : Vec Ideal S16x128 .bf16) (x5 : Vec Ideal S16x128 .bf16) (x6 : Vec Ideal S6144x640 .fp8e4m3) (x7 : Vec Ideal S6144x2048 .fp8e5m2) :
    out2_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = fun _ => scale (bx x0) := by
  unfold out2_A_9
  rw [View.read_writes_eq_canon _ _ _ (cover2_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun2_A
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x128) hz, View.ld_unit_zero (S := S3x16) hz, View.ld_unit_zero (S := S6144x2048) hz, View.ld_unit_zero (S := S6144x640) hz, View.ld_unit_zero (S := S640x2048) hz]
  sl_kernel_rfl

theorem out2_A_10_eq (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec Ideal S3x16 .f32) (x1 : Vec Ideal S1 .i32) (x2 : Vec Ideal S3x16 .f32) (x3 : Vec Ideal S16x128 .bf16) (x4 : Vec Ideal S16x128 .bf16) (x5 : Vec Ideal S16x128 .bf16) (x6 : Vec Ideal S6144x640 .fp8e4m3) (x7 : Vec Ideal S6144x2048 .fp8e5m2) :
    out2_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = fun _ => scale (bw x0) := by
  unfold out2_A_10
  rw [View.read_writes_eq_canon _ _ _ (cover2_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun2_A
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x128) hz, View.ld_unit_zero (S := S3x16) hz, View.ld_unit_zero (S := S6144x2048) hz, View.ld_unit_zero (S := S6144x640) hz, View.ld_unit_zero (S := S640x2048) hz]
  sl_kernel_rfl

theorem out2_A_11_eq (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec Ideal S3x16 .f32) (x1 : Vec Ideal S1 .i32) (x2 : Vec Ideal S3x16 .f32) (x3 : Vec Ideal S16x128 .bf16) (x4 : Vec Ideal S16x128 .bf16) (x5 : Vec Ideal S16x128 .bf16) (x6 : Vec Ideal S6144x640 .fp8e4m3) (x7 : Vec Ideal S6144x2048 .fp8e5m2) :
    out2_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = fun _ => scale (bd x0) := by
  unfold out2_A_11
  rw [View.read_writes_eq_canon _ _ _ (cover2_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun2_A
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x128) hz, View.ld_unit_zero (S := S3x16) hz, View.ld_unit_zero (S := S6144x2048) hz, View.ld_unit_zero (S := S6144x640) hz, View.ld_unit_zero (S := S640x2048) hz]
  sl_kernel_rfl

theorem out2_A_12_eq (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : cond2_0 i)
    (x0 : Vec Ideal S3x16 .f32) (x1 : Vec Ideal S1 .i32) (x2 : Vec Ideal S3x16 .f32) (x3 : Vec Ideal S16x128 .bf16) (x4 : Vec Ideal S16x128 .bf16) (x5 : Vec Ideal S16x128 .bf16) (x6 : Vec Ideal S6144x640 .fp8e4m3) (x7 : Vec Ideal S6144x2048 .fp8e5m2) :
    out2_A_12 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k2_pay1 x2 (stepOf x1) x4 x3 x5 := by
  unfold out2_A_12
  rw [View.read_writes_eq_canon _ _ _ (cover2_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun2_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x128) hz, View.ld_unit_zero (S := S3x16) hz, View.ld_unit_zero (S := S6144x2048) hz, View.ld_unit_zero (S := S6144x640) hz, View.ld_unit_zero (S := S640x2048) hz]
  sl_kernel_rfl

theorem out2_B_8_eq (c : Dev nD) (i : grid2.Coords) (arg1 : Memref sig .tc .smem S3x16 .f32) (harg1 : arg1.IsWhole) (arg2 : Memref sig .tc .smem S1 .i32) (harg2 : arg2.IsWhole) (arg3 : Memref sig .tc .vmem S3x16 .f32) (harg3 : arg3.IsWhole) (arg4 : Memref sig .tc .vmem S16x128 .bf16) (harg4 : arg4.IsWhole) (arg5 : Memref sig .tc .vmem S16x128 .bf16) (harg5 : arg5.IsWhole) (arg6 : Memref sig .tc .vmem S16x128 .bf16) (harg6 : arg6.IsWhole) (arg7 : Memref sig .tc .vmem S6144x640 .fp8e4m3) (harg7 : arg7.IsWhole) (arg8 : Memref sig .tc .vmem S6144x2048 .fp8e5m2) (harg8 : arg8.IsWhole) (arg9 : Memref sig .tc .vmem S640x2048 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .vmem S3x16 .f32) (harg13 : arg13.IsWhole) (hc0 : ¬cond2_0 i)
    (x0 : Vec Ideal S3x16 .f32) (x1 : Vec Ideal S1 .i32) (x2 : Vec Ideal S3x16 .f32) (x3 : Vec Ideal S16x128 .bf16) (x4 : Vec Ideal S16x128 .bf16) (x5 : Vec Ideal S16x128 .bf16) (x6 : Vec Ideal S6144x640 .fp8e4m3) (x7 : Vec Ideal S6144x2048 .fp8e5m2) (xo9 : Vec Ideal S1 .f32) (xo10 : Vec Ideal S1 .f32) (xo11 : Vec Ideal S1 .f32) (xo12 : Vec Ideal S3x16 .f32) :
    out2_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12 = prodW x0 x6 x7 := by
  unfold out2_B_8
  rw [View.read_writes_eq_canon _ _ _ (cover2_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 xo12)]
  unfold kernelRun2_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S16x128) hz, View.ld_unit_zero (S := S3x16) hz, View.ld_unit_zero (S := S6144x2048) hz, View.ld_unit_zero (S := S6144x640) hz, View.ld_unit_zero (S := S640x2048) hz]
  sl_kernel_rfl

end Cert.KernelIdeal.Value
-- ==== Proof.Value.Arr2.lean ====
module

public import proofs.«01_k».proof.Proof.Value.Out2
public import proofs.«01_k».proof.Proof.Value.Pay
public import proofs.«01_k».proof.Proof.Value.Whole

/-! The arrays the third call leaves: the weight gradient by row blocks, the three scales and the new history. -/

@[expose] public section

set_option maxRecDepth 65536

noncomputable section

namespace Cert.KernelIdeal.Value

open Idealize.ShloMosaic Idealize.ShloMosaic.TcCoe Idealize.SL.Sem
open Cert.KernelIdeal Cert.KernelIdeal.Gen Cert.Scale

variable (V : (c : Dev nD) → (b : Ref sig .tc) → Buf (Elt Ideal) ((c : Thread nD τ).loc b))

/-- Input window 0's block is the whole array at every grid point. -/
theorem iblk2_0_eq (c : Dev nD) (t : Fin cfg2.N) : (iblk2 V c 0 t : Vec Ideal S3x16 .f32) = V c main_arg3 := by
  have hz' : (fun a => win2_0.index t a * main_arg3.ty.shape.size a) = fun _ => 0 := funext fun a => by
    fin_cases a <;> exact Nat.zero_mul _
  exact Memref.read_access_unit_zero (Elt Ideal) main_arg3 hz' (fun a => by rw [congrFun hz' a]; simp) (V c main_arg3)

/-- Input window 1's block is the whole array at every grid point. -/
theorem iblk2_1_eq (c : Dev nD) (t : Fin cfg2.N) : (iblk2 V c 1 t : Vec Ideal S1 .i32) = V c main_v4 := by
  have hz' : (fun a => win2_1.index t a * main_v4.ty.shape.size a) = fun _ => 0 := funext fun a => by
    fin_cases a <;> exact Nat.zero_mul _
  exact Memref.read_access_unit_zero (Elt Ideal) main_v4 hz' (fun a => by rw [congrFun hz' a]; simp) (V c main_v4)

/-- Input window 2's block is the whole array at every grid point. -/
theorem iblk2_2_eq (c : Dev nD) (t : Fin cfg2.N) : (iblk2 V c 2 t : Vec Ideal S3x16 .f32) = V c main_arg3 := by
  have hz' : (fun a => win2_2.index t a * main_arg3.ty.shape.size a) = fun _ => 0 := funext fun a => by
    fin_cases a <;> exact Nat.zero_mul _
  exact Memref.read_access_unit_zero (Elt Ideal) main_arg3 hz' (fun a => by rw [congrFun hz' a]; simp) (V c main_arg3)

/-- Input window 3's block is the whole array at every grid point. -/
theorem iblk2_3_eq (c : Dev nD) (t : Fin cfg2.N) : (iblk2 V c 3 t : Vec Ideal S16x128 .bf16) = V c main_v2_1 := by
  have hz' : (fun a => win2_3.index t a * main_v2_1.ty.shape.size a) = fun _ => 0 := funext fun a => by
    fin_cases a <;> exact Nat.zero_mul _
  exact Memref.read_access_unit_zero (Elt Ideal) main_v2_1 hz' (fun a => by rw [congrFun hz' a]; simp) (V c main_v2_1)

/-- Input window 4's block is the whole array at every grid point. -/
theorem iblk2_4_eq (c : Dev nD) (t : Fin cfg2.N) : (iblk2 V c 4 t : Vec Ideal S16x128 .bf16) = V c main_v3_4 := by
  have hz' : (fun a => win2_4.index t a * main_v3_4.ty.shape.size a) = fun _ => 0 := funext fun a => by
    fin_cases a <;> exact Nat.zero_mul _
  exact Memref.read_access_unit_zero (Elt Ideal) main_v3_4 hz' (fun a => by rw [congrFun hz' a]; simp) (V c main_v3_4)

/-- Input window 5's block is the whole array at every grid point. -/
theorem iblk2_5_eq (c : Dev nD) (t : Fin cfg2.N) : (iblk2 V c 5 t : Vec Ideal S16x128 .bf16) = V c main_v3_5 := by
  have hz' : (fun a => win2_5.index t a * main_v3_5.ty.shape.size a) = fun _ => 0 := funext fun a => by
    fin_cases a <;> exact Nat.zero_mul _
  exact Memref.read_access_unit_zero (Elt Ideal) main_v3_5 hz' (fun a => by rw [congrFun hz' a]; simp) (V c main_v3_5)

/-- Input window 7's block is the whole array at every grid point. -/
theorem iblk2_7_eq (c : Dev nD) (t : Fin cfg2.N) : (iblk2 V c 7 t : Vec Ideal S6144x2048 .fp8e5m2) = V c main_v3_3 := by
  have hz' : (fun a => win2_7.index t a * main_v3_3.ty.shape.size a) = fun _ => 0 := funext fun a => by
    fin_cases a <;> exact Nat.zero_mul _
  exact Memref.read_access_unit_zero (Elt Ideal) main_v3_3 hz' (fun a => by rw [congrFun hz' a]; simp) (V c main_v3_3)

/-- Every index of the array lies in the block of some grid point. -/
theorem cover2_8 (i : S3200x2048.Idx) : ∃ t : Fin cfg2.N, (cfg2.win 8).flush t = true ∧ i ∈ ((cfg2.win 8).blk t).view.set := by
  have h0 : (i 0 : Nat) < 3200 := (i 0).isLt
  have h1 : (i 1 : Nat) < 2048 := (i 1).isLt
  have hN : cfg2.N = 5 := N_2
  have e : ∀ t : Fin grid2.N, (win2_8.index t 0 * win2_8.size 0 = 640 * t.val ∧ win2_8.xsize (grid2.coords t) 0 = 640) ∧ (win2_8.index t 1 * win2_8.size 1 = 0 ∧ win2_8.xsize (grid2.coords t) 1 = 2048) := by
    decide +kernel
  obtain ⟨t, ht⟩ : ∃ t : Fin cfg2.N, t.val = (i 0 : Nat) / 640 := ⟨⟨(i 0 : Nat) / 640, by omega⟩, rfl⟩
  refine ⟨t, flush2_8 _, ?_⟩
  show i ∈ ((View.whole main_v5_0).slice (win2_8.rect t)).set
  rw [View.set_slice_whole, Rect.mem_set_unit]
  intro a
  match a with
  | ⟨0, _⟩ =>
    show win2_8.index t 0 * win2_8.size 0 ≤ (i 0 : Nat) ∧ (i 0 : Nat) < win2_8.index t 0 * win2_8.size 0 + win2_8.xsize (grid2.coords t) 0
    rw [(e t).1.1, (e t).1.2]; omega
  | ⟨1, _⟩ =>
    show win2_8.index t 1 * win2_8.size 1 ≤ (i 1 : Nat) ∧ (i 1 : Nat) < win2_8.index t 1 * win2_8.size 1 + win2_8.xsize (grid2.coords t) 1
    rw [(e t).2.1, (e t).2.2]; omega

/-- Window 6's block at a grid point, entry by entry. -/
theorem read2_6 (G : S6144x3200.Idx → Elt Ideal .fp8e4m3) (t : Fin cfg2.N) (j : S6144x640.Idx) :
    (((cfg2.win 6).blk t).view.read (Elt Ideal) G : S6144x640.Idx → Elt Ideal .fp8e4m3) j
      = G (ix2 (j 0) (⟨640 * t.val + (j 1).val, by have := t.isLt; have hN : cfg2.N = 5 := N_2; have : (j 1).val < 640 := (j 1).isLt; omega⟩ : Fin 3200)) := by
  have e : ∀ t : Fin grid2.N, win2_6.index t 1 = t.val := by decide +kernel
  rw [View.read_apply]
  refine congrArg G (funext fun a => Fin.ext ?_)
  match a with
  | ⟨0, _⟩ => show win2_6.index t 0 * 6144 + 1 * (j 0).val = (j 0).val; rw [show win2_6.index t 0 = 0 from rfl]; omega
  | ⟨1, _⟩ => show win2_6.index t 1 * 640 + 1 * (j 1).val = 640 * t.val + (j 1).val; rw [e t]; omega

/-- Window 8's block at a grid point, entry by entry. -/
theorem read2_8 (G : S3200x2048.Idx → Elt Ideal .f32) (t : Fin cfg2.N) (j : S640x2048.Idx) :
    (((cfg2.win 8).blk t).view.read (Elt Ideal) G : S640x2048.Idx → Elt Ideal .f32) j
      = G (ix2 (⟨640 * t.val + (j 0).val, by have := t.isLt; have hN : cfg2.N = 5 := N_2; have : (j 0).val < 640 := (j 0).isLt; omega⟩ : Fin 3200) (j 1)) := by
  have e : ∀ t : Fin grid2.N, win2_8.index t 0 = t.val := by decide +kernel
  rw [View.read_apply]
  refine congrArg G (funext fun a => Fin.ext ?_)
  match a with
  | ⟨0, _⟩ => show win2_8.index t 0 * 640 + 1 * (j 0).val = 640 * t.val + (j 0).val; rw [e t]; omega
  | ⟨1, _⟩ => show win2_8.index t 1 * 2048 + 1 * (j 1).val = (j 1).val; rw [show win2_8.index t 1 = 0 from rfl]; omega

/-- Every block of the weight gradient. -/
theorem outs2_8 (c : Dev nD) (t : Fin cfg2.N) : (outsAt2 V c t.val t.isLt).1 = (prodW (V c main_arg3) (iblk2 V c 6 t) (V c main_v3_3) : Vec Ideal S640x2048 .f32) := by
  have hN : t.val < 5 := lt_of_lt_of_eq t.isLt (show cfg2.N = 5 from N_2)
  by_cases h : ¬t.val % 5 = 0
  · rw [outsAt2_B V c t (by omega)]
    dsimp only
    rw [out2_B_8_eq, iblk2_0_eq, iblk2_7_eq]
  · rw [outsAt2_A V c t (by omega)]
    dsimp only
    rw [out2_A_8_eq, iblk2_0_eq, iblk2_7_eq]

/-- The weight gradient. -/
theorem arr2_8 (c : Dev nD) : (dat2 V c).arrAt 8 cfg2.N
    = wholeW (scale (bx (V c main_arg3)) * scale (bd (V c main_arg3))) (V c main_v3_2) (V c main_v3_3) := by
  refine (dat2 V c).arrAt_eq_of_cover 8 _ (fun t _ => ?_) cover2_8
  show (cfg2.win 8).cut (grid2.coords t) ((dat2 V c).after 8 t) = _
  rw [after2_8, outs2_8]
  rw [prodW_eq]
  funext j
  refine Eq.trans ?_ (read2_8 _ t j).symm
  unfold wholeW
  exact congrArg (· * _) (Finset.sum_congr rfl fun k _ => congrArg₂ (· * ·) (read2_6 _ t (ix2 k (j 0))) rfl)

/-- Output window 9 is written back once, at the last grid point, so the array ends holding what that point left. -/
theorem arr2_9 (c : Dev nD) (G : Vec Ideal S1 .f32) (hG : ∀ t : Fin cfg2.N, t.val = 4 → (dat2 V c).after 9 t = G) :
    (dat2 V c).arrAt 9 cfg2.N = G := by
  have hN : cfg2.N = 5 := N_2
  have hz' : ∀ t, (fun a => win2_9.index t a * main_v5_1.ty.shape.size a) = fun _ => 0 := fun t => funext fun a => by
    fin_cases a <;> exact Nat.zero_mul _
  refine (dat2 V c).arrAt_eq_of_cover 9 G (fun t hf => ?_) (fun i => ⟨⟨4, by omega⟩, (flush2_9 _).mpr rfl, ?_⟩)
  · have h3 := (flush2_9 t).mp hf
    have h4 := t.isLt
    show (cfg2.win 9).cut (grid2.coords t) ((dat2 V c).after 9 t) = _
    rw [hG t (by omega)]
    exact (Memref.read_access_unit_zero (Elt Ideal) main_v5_1 (hz' t) (fun a => by rw [congrFun (hz' t) a]; simp) G).symm
  · have h : 4 < cfg2.N := by omega
    show i ∈ ((View.whole main_v5_1).slice (win2_9.rect ⟨4, h⟩)).set
    rw [View.set_slice_whole, Rect.mem_set_unit]
    intro a
    have h0 : win2_9.index ⟨4, h⟩ a * main_v5_1.ty.shape.size a = 0 := congrFun (hz' _) a
    have h1 : (i a : Nat) < main_v5_1.ty.shape.size a := (i a).isLt
    exact ⟨by show win2_9.index ⟨4, h⟩ a * main_v5_1.ty.shape.size a ≤ _; omega, by show _ < win2_9.index ⟨4, h⟩ a * main_v5_1.ty.shape.size a + main_v5_1.ty.shape.size a; omega⟩

/-- Written at the first point and carried from there on. -/
theorem outs2_9 (c : Dev nD) : ∀ (k : ℕ) (hk : k < cfg2.N), (outsAt2 V c k hk).2.1 = (fun _ => scale (bx (V c main_arg3)) : Vec Ideal S1 .f32)
  | 0, hk => by
    rw [outsAt2_A V c ⟨0, hk⟩ rfl]
    dsimp only
    rw [out2_A_9_eq, iblk2_0_eq]
  | k + 1, hk => by
    have hN : cfg2.N = 5 := N_2
    rw [outsAt2_B V c ⟨k + 1, hk⟩ (by dsimp only; omega)]
    exact outs2_9 c k (Nat.lt_of_succ_lt hk)

/-- What the array of window 9 ends holding. -/
theorem fin2_9 (c : Dev nD) : (dat2 V c).arrAt 9 cfg2.N = (fun _ => scale (bx (V c main_arg3)) : Vec Ideal S1 .f32) :=
  arr2_9 V c _ fun t _ => (after2_9 V c t).trans (outs2_9 V c _ _)

/-- Output window 10 is written back once, at the last grid point, so the array ends holding what that point left. -/
theorem arr2_10 (c : Dev nD) (G : Vec Ideal S1 .f32) (hG : ∀ t : Fin cfg2.N, t.val = 4 → (dat2 V c).after 10 t = G) :
    (dat2 V c).arrAt 10 cfg2.N = G := by
  have hN : cfg2.N = 5 := N_2
  have hz' : ∀ t, (fun a => win2_10.index t a * main_v5_2.ty.shape.size a) = fun _ => 0 := fun t => funext fun a => by
    fin_cases a <;> exact Nat.zero_mul _
  refine (dat2 V c).arrAt_eq_of_cover 10 G (fun t hf => ?_) (fun i => ⟨⟨4, by omega⟩, (flush2_10 _).mpr rfl, ?_⟩)
  · have h3 := (flush2_10 t).mp hf
    have h4 := t.isLt
    show (cfg2.win 10).cut (grid2.coords t) ((dat2 V c).after 10 t) = _
    rw [hG t (by omega)]
    exact (Memref.read_access_unit_zero (Elt Ideal) main_v5_2 (hz' t) (fun a => by rw [congrFun (hz' t) a]; simp) G).symm
  · have h : 4 < cfg2.N := by omega
    show i ∈ ((View.whole main_v5_2).slice (win2_10.rect ⟨4, h⟩)).set
    rw [View.set_slice_whole, Rect.mem_set_unit]
    intro a
    have h0 : win2_10.index ⟨4, h⟩ a * main_v5_2.ty.shape.size a = 0 := congrFun (hz' _) a
    have h1 : (i a : Nat) < main_v5_2.ty.shape.size a := (i a).isLt
    exact ⟨by show win2_10.index ⟨4, h⟩ a * main_v5_2.ty.shape.size a ≤ _; omega, by show _ < win2_10.index ⟨4, h⟩ a * main_v5_2.ty.shape.size a + main_v5_2.ty.shape.size a; omega⟩

/-- Written at the first point and carried from there on. -/
theorem outs2_10 (c : Dev nD) : ∀ (k : ℕ) (hk : k < cfg2.N), (outsAt2 V c k hk).2.2.1 = (fun _ => scale (bw (V c main_arg3)) : Vec Ideal S1 .f32)
  | 0, hk => by
    rw [outsAt2_A V c ⟨0, hk⟩ rfl]
    dsimp only
    rw [out2_A_10_eq, iblk2_0_eq]
  | k + 1, hk => by
    have hN : cfg2.N = 5 := N_2
    rw [outsAt2_B V c ⟨k + 1, hk⟩ (by dsimp only; omega)]
    exact outs2_10 c k (Nat.lt_of_succ_lt hk)

/-- What the array of window 10 ends holding. -/
theorem fin2_10 (c : Dev nD) : (dat2 V c).arrAt 10 cfg2.N = (fun _ => scale (bw (V c main_arg3)) : Vec Ideal S1 .f32) :=
  arr2_10 V c _ fun t _ => (after2_10 V c t).trans (outs2_10 V c _ _)

/-- Output window 11 is written back once, at the last grid point, so the array ends holding what that point left. -/
theorem arr2_11 (c : Dev nD) (G : Vec Ideal S1 .f32) (hG : ∀ t : Fin cfg2.N, t.val = 4 → (dat2 V c).after 11 t = G) :
    (dat2 V c).arrAt 11 cfg2.N = G := by
  have hN : cfg2.N = 5 := N_2
  have hz' : ∀ t, (fun a => win2_11.index t a * main_v5_3.ty.shape.size a) = fun _ => 0 := fun t => funext fun a => by
    fin_cases a <;> exact Nat.zero_mul _
  refine (dat2 V c).arrAt_eq_of_cover 11 G (fun t hf => ?_) (fun i => ⟨⟨4, by omega⟩, (flush2_11 _).mpr rfl, ?_⟩)
  · have h3 := (flush2_11 t).mp hf
    have h4 := t.isLt
    show (cfg2.win 11).cut (grid2.coords t) ((dat2 V c).after 11 t) = _
    rw [hG t (by omega)]
    exact (Memref.read_access_unit_zero (Elt Ideal) main_v5_3 (hz' t) (fun a => by rw [congrFun (hz' t) a]; simp) G).symm
  · have h : 4 < cfg2.N := by omega
    show i ∈ ((View.whole main_v5_3).slice (win2_11.rect ⟨4, h⟩)).set
    rw [View.set_slice_whole, Rect.mem_set_unit]
    intro a
    have h0 : win2_11.index ⟨4, h⟩ a * main_v5_3.ty.shape.size a = 0 := congrFun (hz' _) a
    have h1 : (i a : Nat) < main_v5_3.ty.shape.size a := (i a).isLt
    exact ⟨by show win2_11.index ⟨4, h⟩ a * main_v5_3.ty.shape.size a ≤ _; omega, by show _ < win2_11.index ⟨4, h⟩ a * main_v5_3.ty.shape.size a + main_v5_3.ty.shape.size a; omega⟩

/-- Written at the first point and carried from there on. -/
theorem outs2_11 (c : Dev nD) : ∀ (k : ℕ) (hk : k < cfg2.N), (outsAt2 V c k hk).2.2.2.1 = (fun _ => scale (bd (V c main_arg3)) : Vec Ideal S1 .f32)
  | 0, hk => by
    rw [outsAt2_A V c ⟨0, hk⟩ rfl]
    dsimp only
    rw [out2_A_11_eq, iblk2_0_eq]
  | k + 1, hk => by
    have hN : cfg2.N = 5 := N_2
    rw [outsAt2_B V c ⟨k + 1, hk⟩ (by dsimp only; omega)]
    exact outs2_11 c k (Nat.lt_of_succ_lt hk)

/-- What the array of window 11 ends holding. -/
theorem fin2_11 (c : Dev nD) : (dat2 V c).arrAt 11 cfg2.N = (fun _ => scale (bd (V c main_arg3)) : Vec Ideal S1 .f32) :=
  arr2_11 V c _ fun t _ => (after2_11 V c t).trans (outs2_11 V c _ _)

/-- Output window 12 is written back once, at the last grid point, so the array ends holding what that point left. -/
theorem arr2_12 (c : Dev nD) (G : Vec Ideal S3x16 .f32) (hG : ∀ t : Fin cfg2.N, t.val = 4 → (dat2 V c).after 12 t = G) :
    (dat2 V c).arrAt 12 cfg2.N = G := by
  have hN : cfg2.N = 5 := N_2
  have hz' : ∀ t, (fun a => win2_12.index t a * main_v5_4.ty.shape.size a) = fun _ => 0 := fun t => funext fun a => by
    fin_cases a <;> exact Nat.zero_mul _
  refine (dat2 V c).arrAt_eq_of_cover 12 G (fun t hf => ?_) (fun i => ⟨⟨4, by omega⟩, (flush2_12 _).mpr rfl, ?_⟩)
  · have h3 := (flush2_12 t).mp hf
    have h4 := t.isLt
    show (cfg2.win 12).cut (grid2.coords t) ((dat2 V c).after 12 t) = _
    rw [hG t (by omega)]
    exact (Memref.read_access_unit_zero (Elt Ideal) main_v5_4 (hz' t) (fun a => by rw [congrFun (hz' t) a]; simp) G).symm
  · have h : 4 < cfg2.N := by omega
    show i ∈ ((View.whole main_v5_4).slice (win2_12.rect ⟨4, h⟩)).set
    rw [View.set_slice_whole, Rect.mem_set_unit]
    intro a
    have h0 : win2_12.index ⟨4, h⟩ a * main_v5_4.ty.shape.size a = 0 := congrFun (hz' _) a
    have h1 : (i a : Nat) < main_v5_4.ty.shape.size a := (i a).isLt
    exact ⟨by show win2_12.index ⟨4, h⟩ a * main_v5_4.ty.shape.size a ≤ _; omega, by show _ < win2_12.index ⟨4, h⟩ a * main_v5_4.ty.shape.size a + main_v5_4.ty.shape.size a; omega⟩

/-- Written at the first point and carried from there on. -/
theorem outs2_12 (c : Dev nD) : ∀ (k : ℕ) (hk : k < cfg2.N), (outsAt2 V c k hk).2.2.2.2 = (k2_pay1 (F := Ideal) (V c main_arg3) (stepOf (V c main_v4)) (V c main_v3_4) (V c main_v2_1) (V c main_v3_5) : Vec Ideal S3x16 .f32)
  | 0, hk => by
    rw [outsAt2_A V c ⟨0, hk⟩ rfl]
    dsimp only
    rw [out2_A_12_eq, iblk2_1_eq, iblk2_2_eq, iblk2_3_eq, iblk2_4_eq, iblk2_5_eq]
  | k + 1, hk => by
    have hN : cfg2.N = 5 := N_2
    rw [outsAt2_B V c ⟨k + 1, hk⟩ (by dsimp only; omega)]
    exact outs2_12 c k (Nat.lt_of_succ_lt hk)

/-- What the array of window 12 ends holding. -/
theorem fin2_12 (c : Dev nD) : (dat2 V c).arrAt 12 cfg2.N = (k2_pay1 (F := Ideal) (V c main_arg3) (stepOf (V c main_v4)) (V c main_v3_4) (V c main_v2_1) (V c main_v3_5) : Vec Ideal S3x16 .f32) :=
  arr2_12 V c _ fun t _ => (after2_12 V c t).trans (outs2_12 V c _ _)

end Cert.KernelIdeal.Value
-- ==== Proof.Value.End.lean ====
module

public import proofs.«01_k».proof.Proof.Frame.Run
public import proofs.«01_k».proof.Proof.Value.Arr0
public import proofs.«01_k».proof.Proof.Value.Arr1
public import proofs.«01_k».proof.Proof.Value.Arr2

/-! What the kernel's result buffers hold when it ends, from the arguments it started with. -/

@[expose] public section

set_option maxRecDepth 65536

noncomputable section

namespace Cert.KernelIdeal.Value

open Idealize.ShloMosaic Idealize.ShloMosaic.TcCoe Idealize.SL.Sem
open Cert.KernelIdeal Cert.KernelIdeal.Gen Cert.Scale

variable (m : (ℓ : Loc nD τ sig) → Buf (Elt Ideal) ℓ) (ρ : Dev nD → PrngReg)

/-- The arguments: the history, the tokens, the weight, the output gradient and the step. -/
abbrev aH (c : Dev nD) : Vec Ideal S3x16 .f32 := m ((c : Thread nD τ).loc main_arg3)
abbrev aX (c : Dev nD) : Vec Ideal S6144x3200 .bf16 := shapeCast S6144x3200 (m ((c : Thread nD τ).loc main_arg0)) shapeCasts_S2x3072x3200_S6144x3200
abbrev aW (c : Dev nD) : Vec Ideal S3200x2048 .bf16 := m ((c : Thread nD τ).loc main_arg1)
abbrev aD (c : Dev nD) : Vec Ideal S6144x2048 .bf16 := shapeCast S6144x2048 (m ((c : Thread nD τ).loc main_arg2)) shapeCasts_S2x3072x2048_S6144x2048
abbrev aS (c : Dev nD) : Vec Ideal S1 .i32 := shapeCast S1 (m ((c : Thread nD τ).loc main_arg4)) shapeCasts_S_S1

/-- The codes of the three arrays. -/
abbrev cW (c : Dev nD) : Vec Ideal S3200x2048 .fp8e4m3 := codes43 (s := S3200x2048) (recip (bw (aH m c))) (aW m c)
abbrev cX (c : Dev nD) : Vec Ideal S6144x3200 .fp8e4m3 := codes43 (s := S6144x3200) (recip (bx (aH m c))) (aX m c)
abbrev cD (c : Dev nD) : Vec Ideal S6144x2048 .fp8e5m2 := codes52 (s := S6144x2048) (recip (bd (aH m c))) (aD m c)

/-! Before the first call. -/
theorem V1_arg3 (c : Dev nD) : V1 m ρ c main_arg3 = aH m c := W1_of m ρ c main_arg3 (by decide)
theorem V1_arg1 (c : Dev nD) : V1 m ρ c main_arg1 = aW m c := W1_of m ρ c main_arg1 (by decide)
theorem V1_v0 (c : Dev nD) : V1 m ρ c main_v0 = aX m c := by
  show StableHlo.after hostOps0 (W0 m ρ c) (Proc.devRef .tc main_v0) = _
  after_results
  rfl
theorem V1_v1 (c : Dev nD) : V1 m ρ c main_v1 = aD m c := by
  show StableHlo.after hostOps0 (W0 m ρ c) (Proc.devRef .tc main_v1) = _
  after_results
  rfl

/-! After the first call. -/
theorem V2_arg3 (c : Dev nD) : V2 m ρ c main_arg3 = aH m c := (W2_of m ρ c main_arg3 (by decide)).trans (V1_arg3 m ρ c)
theorem V2_v0 (c : Dev nD) : V2 m ρ c main_v0 = aX m c := (W2_of m ρ c main_v0 (by decide)).trans (V1_v0 m ρ c)
theorem V2_v1 (c : Dev nD) : V2 m ρ c main_v1 = aD m c := (W2_of m ρ c main_v1 (by decide)).trans (V1_v1 m ρ c)
theorem V2_codes (c : Dev nD) : V2 m ρ c main_v2_0 = cW m c := by
  refine (W2_arr m ρ c 2).trans ?_
  rw [arr0_2, V1_arg3, V1_arg1]
theorem V2_top (c : Dev nD) (z : EReal) : Bnd (V2 m ρ c main_v2_1 : Vec Ideal S16x128 .bf16) z ↔ Bnd (absf (F := Ideal) (φ := .bf16) (aW m c)) z := by
  rw [show V2 m ρ c main_v2_1 = (dat0 (V1 m ρ) c).arrAt 3 cfg0.N from W2_arr m ρ c 3, top0_3, V1_arg1]

/-! After the second call. -/
theorem V3_arg3 (c : Dev nD) : V3 m ρ c main_arg3 = aH m c := (W3_of m ρ c main_arg3 (by decide)).trans (V2_arg3 m ρ c)
theorem V3_wcodes (c : Dev nD) : V3 m ρ c main_v2_0 = cW m c := (W3_of m ρ c main_v2_0 (by decide)).trans (V2_codes m ρ c)
theorem V3_wtop (c : Dev nD) (z : EReal) : Bnd (V3 m ρ c main_v2_1 : Vec Ideal S16x128 .bf16) z ↔ Bnd (absf (F := Ideal) (φ := .bf16) (aW m c)) z := by
  rw [show V3 m ρ c main_v2_1 = V2 m ρ c main_v2_1 from W3_of m ρ c main_v2_1 (by decide), V2_top]
theorem V3_y (c : Dev nD) : V3 m ρ c main_v3_0 = wholeY (scale (bx (aH m c)) * scale (bw (aH m c))) (cX m c) (cW m c) := by
  refine (W3_arr m ρ c 4).trans ?_
  rw [arr1_4, V2_arg3, V2_v0, V2_codes]
theorem V3_dx (c : Dev nD) : V3 m ρ c main_v3_1 = wholeX (scale (bd (aH m c)) * scale (bw (aH m c))) (cD m c) (cW m c) := by
  refine (W3_arr m ρ c 5).trans ?_
  rw [arr1_5, V2_arg3, V2_v1, V2_codes]
theorem V3_xcodes (c : Dev nD) : V3 m ρ c main_v3_2 = cX m c := by
  refine (W3_arr m ρ c 6).trans ?_
  rw [arr1_6, V2_arg3, V2_v0]
theorem V3_dcodes (c : Dev nD) : V3 m ρ c main_v3_3 = cD m c := by
  refine (W3_arr m ρ c 7).trans ?_
  rw [arr1_7, V2_arg3, V2_v1]
theorem V3_xtop (c : Dev nD) (z : EReal) : Bnd (V3 m ρ c main_v3_4 : Vec Ideal S16x128 .bf16) z ↔ Bnd (absf (F := Ideal) (φ := .bf16) (aX m c)) z := by
  rw [show V3 m ρ c main_v3_4 = (dat1 (V2 m ρ) c).arrAt 8 cfg1.N from W3_arr m ρ c 8, top1_8, V2_v0]
theorem V3_dtop (c : Dev nD) (z : EReal) : Bnd (V3 m ρ c main_v3_5 : Vec Ideal S16x128 .bf16) z ↔ Bnd (absf (F := Ideal) (φ := .bf16) (aD m c)) z := by
  rw [show V3 m ρ c main_v3_5 = (dat1 (V2 m ρ) c).arrAt 9 cfg1.N from W3_arr m ρ c 9, top1_9, V2_v1]

/-! Before the third call. -/
theorem V4_of (c : Dev nD) (r : Ref sig .tc) (h : r ∉ hostOps2_W) : V4 m ρ c r = V3 m ρ c r := W4_of m ρ c r h
theorem V4_v4 (c : Dev nD) : V4 m ρ c main_v4 = aS m c := by
  show StableHlo.after hostOps2 (W3 m ρ c) (Proc.devRef .tc main_v4) = _
  after_results
  rw [W3_args m ρ c main_arg4 (by decide)]
  rfl

/-! When the kernel ends. -/
theorem end_y (c : Dev nD) : W5 m ρ c (Proc.devRef .tc main_v3_0) = wholeY (scale (bx (aH m c)) * scale (bw (aH m c))) (cX m c) (cW m c) :=
  (W5_of m ρ c main_v3_0 (by decide)).trans ((V4_of m ρ c main_v3_0 (by decide)).trans (V3_y m ρ c))
theorem end_dx (c : Dev nD) : W5 m ρ c (Proc.devRef .tc main_v3_1) = wholeX (scale (bd (aH m c)) * scale (bw (aH m c))) (cD m c) (cW m c) :=
  (W5_of m ρ c main_v3_1 (by decide)).trans ((V4_of m ρ c main_v3_1 (by decide)).trans (V3_dx m ρ c))
theorem end_xcodes (c : Dev nD) : W5 m ρ c (Proc.devRef .tc main_v3_2) = cX m c :=
  (W5_of m ρ c main_v3_2 (by decide)).trans ((V4_of m ρ c main_v3_2 (by decide)).trans (V3_xcodes m ρ c))
theorem end_dcodes (c : Dev nD) : W5 m ρ c (Proc.devRef .tc main_v3_3) = cD m c :=
  (W5_of m ρ c main_v3_3 (by decide)).trans ((V4_of m ρ c main_v3_3 (by decide)).trans (V3_dcodes m ρ c))
theorem end_wcodes (c : Dev nD) : W5 m ρ c (Proc.devRef .tc main_v2_0) = cW m c :=
  (W5_of m ρ c main_v2_0 (by decide)).trans ((V4_of m ρ c main_v2_0 (by decide)).trans (V3_wcodes m ρ c))
theorem end_dw (c : Dev nD) : W5 m ρ c (Proc.devRef .tc main_v5_0) = wholeW (scale (bx (aH m c)) * scale (bd (aH m c))) (cX m c) (cD m c) := by
  refine (W5_arr m ρ c 8).trans ?_
  rw [arr2_8, V4_of m ρ c main_arg3 (by decide), V4_of m ρ c main_v3_2 (by decide), V4_of m ρ c main_v3_3 (by decide), V3_arg3, V3_xcodes, V3_dcodes]
theorem end_xs (c : Dev nD) : W5 m ρ c (Proc.devRef .tc main_v5_1) = (fun _ => scale (bx (aH m c)) : Vec Ideal S1 .f32) := by
  refine (W5_arr m ρ c 9).trans ?_
  rw [fin2_9, V4_of m ρ c main_arg3 (by decide), V3_arg3]
theorem end_ws (c : Dev nD) : W5 m ρ c (Proc.devRef .tc main_v5_2) = (fun _ => scale (bw (aH m c)) : Vec Ideal S1 .f32) := by
  refine (W5_arr m ρ c 10).trans ?_
  rw [fin2_10, V4_of m ρ c main_arg3 (by decide), V3_arg3]
theorem end_ds (c : Dev nD) : W5 m ρ c (Proc.devRef .tc main_v5_3) = (fun _ => scale (bd (aH m c)) : Vec Ideal S1 .f32) := by
  refine (W5_arr m ρ c 11).trans ?_
  rw [fin2_11, V4_of m ρ c main_arg3 (by decide), V3_arg3]

/-- The largest absolute value of an array. -/
def amax {s : Shape} (v : FVec Ideal s .bf16) : EReal := topOf (absf (F := Ideal) v)

/-- An array bounded exactly as another has the same largest entry. -/
theorem topOf_eq {s t : Shape} (a : s.Idx → EReal) (b : t.Idx → EReal) (h : ∀ z, Bnd a z ↔ Bnd b z) : topOf a = topOf b :=
  eq_of_forall_ge_iff fun z => by rw [topOf_le, topOf_le, h]

/-- The new history: the three largest absolute values in the step's column. -/
def newHist (h : Vec Ideal S3x16 .f32) (s : BitVec 32) (x w d : EReal) : Vec Ideal S3x16 .f32 :=
  fun i => if BitVec.ofNat 32 (i 1).val = s &&& 15#32 then cur x w d (i 0) else h i

theorem end_hist (c : Dev nD) : W5 m ρ c (Proc.devRef .tc main_v5_4)
    = newHist (aH m c) (m ((c : Thread nD τ).loc main_arg4) ix0) (amax (s := S6144x3200) (aX m c)) (amax (s := S3200x2048) (aW m c)) (amax (s := S6144x2048) (aD m c)) := by
  refine (W5_arr m ρ c 12).trans ?_
  rw [fin2_12]
  funext i
  rw [pay1_apply, stepOf_eq, V4_v4, V4_of m ρ c main_arg3 (by decide), V3_arg3,
    V4_of m ρ c main_v3_4 (by decide), V4_of m ρ c main_v3_5 (by decide), V4_of m ρ c main_v2_1 (by decide),
    topOf_eq _ _ (V3_xtop m ρ c), topOf_eq _ _ (V3_wtop m ρ c), topOf_eq _ _ (V3_dtop m ρ c)]
  have hs : aS m c (ValueIdx.ix1 0) = m ((c : Thread nD τ).loc main_arg4) ix0 :=
    congrArg (m ((c : Thread nD τ).loc main_arg4)) (funext fun a => a.elim0)
  rw [hs]
  rfl

end Cert.KernelIdeal.Value
-- ==== Proof.Value.RefHost.lean ====
module

public import proofs.«01_k».proof.Proof.Value.RefArr
public import proofs.«01_k».proof.Proof.Value.RefMath
public import proofs.«01_k».proof.Proof.Value.End
public import Idealize.ShloMosaic.Lib.StableHlo.RunRead

/-! What the reference's host lines compute before its one call: the three scales and the new history. -/

@[expose] public section

set_option maxRecDepth 65536

noncomputable section

namespace Cert.ReferenceIdeal.Value

open Idealize.ShloMosaic Idealize.ShloMosaic.TcCoe Idealize.SL.Sem
open Cert.ReferenceIdeal Cert.ReferenceIdeal.Gen Cert.Scale
open Cert.KernelIdeal.Value (rowMax mag bx bw bd topOf topOf_le topOf_eq Bnd bnd_shapeCast neg_inf_f32 neg_inf_bf16 amax newHist cur)

variable (m : (ℓ : Loc nD τ sig) → Buf (Elt Ideal) ℓ)

/-- The arguments. -/
abbrev bH (c : Dev nD) : Vec Ideal S3x16 .f32 := m ((c : Thread nD τ).loc main_arg3)
abbrev bX (c : Dev nD) : Vec Ideal S6144x3200 .bf16 := shapeCast S6144x3200 (m ((c : Thread nD τ).loc main_arg0)) shapeCasts_S2x3072x3200_S6144x3200
abbrev bW (c : Dev nD) : Vec Ideal S3200x2048 .bf16 := m ((c : Thread nD τ).loc main_arg1)
abbrev bD (c : Dev nD) : Vec Ideal S6144x2048 .bf16 := shapeCast S6144x2048 (m ((c : Thread nD τ).loc main_arg2)) shapeCasts_S2x3072x2048_S6144x2048

/-- The table's entries are the words of the normal powers of two. -/
theorem lit0_eq (k : Fin 254) : lit0 k = BitVec.ofNat 32 (k.val + 1) <<< 23 := by
  revert k; decide +kernel

theorem tab0 (i : S254.Idx) : (FloatOps.ofBits (F := Ideal) FTy.f32 (lit0 (S254.rowMajor i)) : EReal) = pow2 ((i 0).val + 1) := by
  refine (congrArg (FloatOps.ofBits (F := Ideal) FTy.f32) (lit0_eq (S254.rowMajor i))).trans ?_
  exact congrArg (fun k : Nat => pow2 (k + 1)) (Shape.rowMajor_val_one (d := ![254]) i)

/-- The table's entries are the words of the normal powers of two. -/
theorem lit1_eq (k : Fin 254) : lit1 k = BitVec.ofNat 32 (k.val + 1) <<< 23 := by
  revert k; decide +kernel

theorem tab1 (i : S254.Idx) : (FloatOps.ofBits (F := Ideal) FTy.f32 (lit1 (S254.rowMajor i)) : EReal) = pow2 ((i 0).val + 1) := by
  refine (congrArg (FloatOps.ofBits (F := Ideal) FTy.f32) (lit1_eq (S254.rowMajor i))).trans ?_
  exact congrArg (fun k : Nat => pow2 (k + 1)) (Shape.rowMajor_val_one (d := ![254]) i)

/-- The table's entries are the words of the normal powers of two. -/
theorem lit2_eq (k : Fin 254) : lit2 k = BitVec.ofNat 32 (k.val + 1) <<< 23 := by
  revert k; decide +kernel

theorem tab2 (i : S254.Idx) : (FloatOps.ofBits (F := Ideal) FTy.f32 (lit2 (S254.rowMajor i)) : EReal) = pow2 ((i 0).val + 1) := by
  refine (congrArg (FloatOps.ofBits (F := Ideal) FTy.f32) (lit2_eq (S254.rowMajor i))).trans ?_
  exact congrArg (fun k : Nat => pow2 (k + 1)) (Shape.rowMajor_val_one (d := ![254]) i)

/-- The magnitude a row's maximum gives. -/
theorem mag_eq (h : Vec Ideal S3x16 .f32) (r : Fin 3) (w : BitVec 32) (hs : S3.Slices ![r.val] S1) (hc : S1.ShapeCasts S_) (q : S_.Idx) :
    (Host.absf (F := Ideal) (mulf (F := Ideal) (φ := .f32)
      (shapeCast S_ (extractStridedSlice S1 ![r.val]
        (Host.reduce (FloatOps.maximumf (F := Ideal) (φ := .f32)) h (constant (F := Ideal) S_ .f32 4286578688#32) reducesTo_S3x16_S3_d1 h_S_) hs) hc)
      (constant (F := Ideal) S_ .f32 w))) q = mag h r w := by
  unfold mag
  refine congrArg (fun x : EReal => Scalar.absf (F := Ideal) (φ := .f32) (Scalar.mulf (F := Ideal) (φ := .f32) x (Scalar.ofBits (F := Ideal) .f32 w))) ?_
  refine rows_eq h (constant (F := Ideal) S_ .f32 4286578688#32) (fun _ => neg_inf_f32) reducesTo_S3x16_S3_d1 h_S_ r _ (funext fun a => Fin.ext ?_)
  match a with
  | ⟨0, _⟩ =>
    have h1 : ∀ k : Fin 1, r.val + k.val = r.val := fun k => by omega
    exact h1 _

theorem V_v12 (c : Dev nD) : V m c main_v12 = (fun _ => refScale (bx (bH m c)) : Vec Ideal S1 .f32) := by
  unfold_abbrev_sides
  after_reads_simp
  simp -implicitDefEqProofs only [StableHlo.TRef.toBuf, StableHlo.TRef.ofBuf, cast_eq, id]
  funext i
  refine (congrFun (table_scale _ (fun i => tab0 i) _) _).trans ?_
  exact congrArg refScale (mag_eq (bH m c) 0 _ slices_S3_S1_0 shapeCasts_S1_S_ ValueIdx.ix0)

theorem V_v24 (c : Dev nD) : V m c main_v24 = (fun _ => refScale (bw (bH m c)) : Vec Ideal S1 .f32) := by
  unfold_abbrev_sides
  after_reads_simp
  simp -implicitDefEqProofs only [StableHlo.TRef.toBuf, StableHlo.TRef.ofBuf, cast_eq, id]
  funext i
  refine (congrFun (table_scale _ (fun i => tab1 i) _) _).trans ?_
  exact congrArg refScale (mag_eq (bH m c) 1 _ slices_S3_S1_1 shapeCasts_S1_S_ ValueIdx.ix0)

theorem V_v36 (c : Dev nD) : V m c main_v36 = (fun _ => refScale (bd (bH m c)) : Vec Ideal S1 .f32) := by
  unfold_abbrev_sides
  after_reads_simp
  simp -implicitDefEqProofs only [StableHlo.TRef.toBuf, StableHlo.TRef.ofBuf, cast_eq, id]
  funext i
  refine (congrFun (table_scale _ (fun i => tab2 i) _) _).trans ?_
  exact congrArg refScale (mag_eq (bH m c) 2 _ slices_S3_S1_2 shapeCasts_S1_S_ ValueIdx.ix0)

theorem V_v57 (c : Dev nD) : V m c main_v57 = bX m c := by
  unfold_abbrev_sides
  after_reads_simp
  try rfl

theorem V_v58 (c : Dev nD) : V m c main_v58 = bD m c := by
  unfold_abbrev_sides
  after_reads_simp
  try rfl

/-- A host maximum into a scalar, as a whole. -/
theorem max_eq {s : Shape} {axes : List (Fin s.rank)} (a : FVec Ideal s .bf16) (h : s.ReducesTo axes S_) :
    Host.reduce (FloatOps.maximumf (F := Ideal) (φ := .bf16)) (Host.absf (F := Ideal) a) (constant (F := Ideal) S_ .bf16 65408#16) h h_S_
      = fun _ => amax a :=
  funext fun j => hostMax_all (φ := .bf16) (t := S_) rfl _ (constant (F := Ideal) S_ .bf16 65408#16) h h_S_ (fun _ => neg_inf_bf16) j

/-- Reshaping keeps the largest absolute value. -/
theorem amax_cast {s t : Shape} (a : FVec Ideal s .bf16) (h : s.ShapeCasts t) : amax a = amax (s := t) (shapeCast t a h) :=
  topOf_eq _ _ fun z => (bnd_shapeCast (absf (F := Ideal) a) h z).symm

/-- The current maximum of argument 0. -/
theorem V_v46 (c : Dev nD) : V m c main_v46 = (fun _ => amax (s := S6144x3200) (bX m c) : Vec Ideal S1 .f32) := by
  unfold_abbrev_sides
  after_reads_simp
  rw [max_eq]
  exact funext fun _ => amax_cast _ shapeCasts_S2x3072x3200_S6144x3200

/-- The current maximum of argument 1. -/
theorem V_v47 (c : Dev nD) : V m c main_v47 = (fun _ => amax (s := S3200x2048) (bW m c) : Vec Ideal S1 .f32) := by
  unfold_abbrev_sides
  after_reads_simp
  rw [max_eq]
  rfl

/-- The current maximum of argument 2. -/
theorem V_v48 (c : Dev nD) : V m c main_v48 = (fun _ => amax (s := S6144x2048) (bD m c) : Vec Ideal S1 .f32) := by
  unfold_abbrev_sides
  after_reads_simp
  rw [max_eq]
  exact funext fun _ => amax_cast _ shapeCasts_S2x3072x2048_S6144x2048

theorem cat3 (a b d a' b' d' : Vec Ideal S1 .f32) (ha : a = a') (hb : b = b') (hd : d = d') :
    concatenate S3 0 [⟨S1, a⟩, ⟨S1, b⟩, ⟨S1, d⟩] concatenates_S1_S1_S1_S3_d0 =
      concatenate S3 0 [⟨S1, a'⟩, ⟨S1, b'⟩, ⟨S1, d'⟩] concatenates_S1_S1_S1_S3_d0 := by
  subst ha hb hd; rfl

/-- The three current maxima, one after another. -/
theorem V_v49 (c : Dev nD) (a b d : Vec Ideal S1 .f32) (ha : V m c main_v46 = a) (hb : V m c main_v47 = b) (hd : V m c main_v48 = d) :
    V m c main_v49 = concatenate S3 0 [⟨S1, a⟩, ⟨S1, b⟩, ⟨S1, d⟩] concatenates_S1_S1_S1_S3_d0 := by
  unfold_abbrev_sides
  after_reads_simp
  refine cat3 _ _ _ _ _ _ ?_ ?_ ?_
  · rw [← ha]
    unfold_abbrev_sides
    change StableHlo.upto _ _ 77 (Proc.devRef .tc main_v46) = _
    after_reads_simp
  · rw [← hb]
    unfold_abbrev_sides
    change StableHlo.upto _ _ 77 (Proc.devRef .tc main_v47) = _
    after_reads_simp
  · rw [← hd]
    unfold_abbrev_sides
    change StableHlo.upto _ _ 77 (Proc.devRef .tc main_v48) = _
    after_reads_simp

/-- The step. -/
abbrev bS (c : Dev nD) : BitVec 32 := (m ((c : Thread nD τ).loc main_arg4) : Vec Ideal S_ .i32) ValueIdx.ix0

/-- The remainder as the reference takes it. -/
theorem rem_eq (x : IVec S_ 32) (q : S_.Idx) :
    select
          (andi
            (cmpi CmpIPredicate.ne
              (cmpi CmpIPredicate.slt
                (Host.remsi x
                  (select (cmpi CmpIPredicate.eq (constantI S_ 32 16#32) (constantI S_ 32 0#32)) (constantI S_ 32 1#32)
                    (constantI S_ 32 16#32)))
                (constantI S_ 32 0#32))
              (cmpi CmpIPredicate.slt
                (select (cmpi CmpIPredicate.eq (constantI S_ 32 16#32) (constantI S_ 32 0#32)) (constantI S_ 32 1#32)
                  (constantI S_ 32 16#32))
                (constantI S_ 32 0#32)))
            (cmpi CmpIPredicate.ne
              (Host.remsi x
                (select (cmpi CmpIPredicate.eq (constantI S_ 32 16#32) (constantI S_ 32 0#32)) (constantI S_ 32 1#32)
                  (constantI S_ 32 16#32)))
              (constantI S_ 32 0#32)))
          (addi
            (Host.remsi x
              (select (cmpi CmpIPredicate.eq (constantI S_ 32 16#32) (constantI S_ 32 0#32)) (constantI S_ 32 1#32)
                (constantI S_ 32 16#32)))
            (select (cmpi CmpIPredicate.eq (constantI S_ 32 16#32) (constantI S_ 32 0#32)) (constantI S_ 32 1#32)
              (constantI S_ 32 16#32)))
          (Host.remsi x
            (select (cmpi CmpIPredicate.eq (constantI S_ 32 16#32) (constantI S_ 32 0#32)) (constantI S_ 32 1#32)
              (constantI S_ 32 16#32))) q = x q &&& 15#32 := by
  have hs : (select (cmpi CmpIPredicate.eq (constantI S_ 32 16#32) (constantI S_ 32 0#32)) (constantI S_ 32 1#32)
              (constantI S_ 32 16#32)) = constantI S_ 32 16#32 := rfl
  have hr : Host.remsi x (constantI S_ 32 16#32) = fun i => (x i).srem 16#32 :=
    funext fun i => IntOp.remsi_of_pos (x := x i) (y := 16#32) _ (by decide)
  rw [hs, hr, ← floorMod]
  show (if (BitVec.ofBool (BitVec.ofBool (BitVec.slt ((x q).srem 16#32) 0#32) != 0#1)
      &&& BitVec.ofBool ((x q).srem 16#32 != 0#32)) = 1#1 then (x q).srem 16#32 + 16#32 else (x q).srem 16#32) = _
  refine if_congr ?_ rfl rfl
  generalize (x q).srem 16#32 = y
  by_cases h0 : y = 0#32
  · subst h0; decide
  · have h1 : (y != 0#32) = true := by simpa using h0
    rw [h1]
    cases BitVec.slt y 0#32 <;> simp [h0]

/-- The step's column. -/
theorem V_v50 (c : Dev nD) : V m c main_v50 = (fun _ => bS m c &&& 15#32 : Vec Ideal S_ .i32) := by
  unfold_abbrev_sides
  after_reads_simp
  simp -implicitDefEqProofs only [StableHlo.TRef.toBuf, StableHlo.TRef.ofBuf, cast_eq, id]
  funext q
  rw [show q = ValueIdx.ix0 from funext fun a => a.elim0]
  exact rem_eq _ _

/-- The mask of the step's column. -/
theorem V_v54 (c : Dev nD) (i : S1x16.Idx) : (V m c main_v54 : Vec Ideal S1x16 .i1) i =
    IntOp.cmpi .eq (BitVec.ofNat 32 (i 1).val) (bS m c &&& 15#32) := by
  have h : V m c main_v54 = (cmpi CmpIPredicate.eq (broadcastInDim S1x16 ![1] bcast_S16_S1x16_1 (iotaInDim S16 32 0))
      (broadcastInDim S1x16 ![] bcast_S_S1x16 (V m c main_v50)) : Vec Ideal S1x16 .i1) := by
    unfold_abbrev_sides
    after_reads_simp
  rw [h, V_v50]
  rfl

/-- The new history is a choice between the maxima and the old history. -/
theorem V_v56_eq (c : Dev nD) : V m c main_v56 = (select (broadcastInDim S3x16 ![0, 1] bcast_S1x16_S3x16_0_1 (V m c main_v54 : Vec Ideal S1x16 .i1))
    (broadcastInDim S3x16 ![0, 1] bcast_S3x1_S3x16_0_1 (broadcastInDim S3x1 ![0] bcast_S3_S3x1_0 (V m c main_v49 : Vec Ideal S3 .f32)))
    (bH m c) : Vec Ideal S3x16 .f32) := by
  unfold_abbrev_sides
  after_reads_simp
  simp -implicitDefEqProofs only [StableHlo.TRef.toBuf, StableHlo.TRef.ofBuf, cast_eq, id]

theorem V_v56 (c : Dev nD) : V m c main_v56 = newHist (bH m c) (bS m c) (amax (s := S6144x3200) (bX m c)) (amax (s := S3200x2048) (bW m c)) (amax (s := S6144x2048) (bD m c)) := by
  rw [V_v56_eq, V_v49 m c _ _ _ (V_v46 m c) (V_v47 m c) (V_v48 m c)]
  generalize amax (s := S6144x3200) (bX m c) = x
  generalize amax (s := S3200x2048) (bW m c) = w
  generalize amax (s := S6144x2048) (bD m c) = d
  funext i
  have hi := V_v54 m c
  generalize (V m c main_v54 : Vec Ideal S1x16 .i1) = M at hi
  unfold newHist
  have hs : ∀ (x y : BitVec 32) (a b : EReal), Scalar.select (IntOp.cmpi .eq x y) a b = if x = y then a else b := by
    intro x y a b
    show (if BitVec.ofBool (x == y) = 1#1 then a else b) = _
    by_cases h : x = y
    · simp [h]
    · rw [if_neg h, show (x == y) = false from beq_eq_false_iff_ne.mpr h]; rfl
  have h3 : (i 0).val < 3 := (i 0).isLt
  simp only [pointwise, hi, hs]
  refine if_congr Iff.rfl ?_ rfl
  unfold cur
  by_cases h0 : (i 0).val = 0
  · rw [if_pos h0]
    exact dif_pos (show (i 0).val < 1 by omega)
  · rw [if_neg h0]
    refine (dif_neg (show ¬ (i 0).val < 1 by omega)).trans ?_
    by_cases h1 : (i 0).val = 1
    · rw [if_pos h1]
      exact dif_pos (show (i 0).val - 1 < 1 by omega)
    · rw [if_neg h1]
      exact dif_neg (show ¬ (i 0).val - 1 < 1 by omega)

end Cert.ReferenceIdeal.Value
-- ==== Proof.Value.Bound.lean ====
module

public import proofs.«01_k».proof.Proof.Value.RefMath

/-! A finite history keeps the magnitudes below the powers where the kernel's and the reference's scales part. -/

@[expose] public section

noncomputable section

namespace Cert.ReferenceIdeal.Value

open Idealize.ShloMosaic
open Cert.ReferenceIdeal Cert.Scale
open Cert.KernelIdeal.Value (rowMax mag bx bw bd)

/-- A normal positive word's value. -/
theorem word_val (w : BitVec 32) (n f : ℕ) (h1 : w.extractLsb' 31 1 = 0#1) (h2 : (w.extractLsb' 23 8).toNat = n)
    (h3 : (w.extractLsb' 0 23).toNat = f) (h4 : 1 ≤ n) (h5 : n ≤ 254) :
    Ideal.ofBits .f32 w = ((((2 ^ 23 + f : ℕ) : ℝ) * (2 : ℝ) ^ ((n : ℤ) - 150) : ℝ) : EReal) := by
  unfold Ideal.ofBits Ideal.ieee
  simp only [Nat.reduceAdd, h1, h2, h3]
  rw [if_neg (by norm_num; omega), if_neg (by omega)]
  refine congrArg (fun r : ℝ => (r : EReal)) ?_
  rw [if_neg (by decide), one_mul]
  have h6 : ((n : ℤ) - (2 ^ (8 - 1) - 1) - (23 : ℕ)) = (n : ℤ) - 150 := by norm_num; omega
  rw [h6]

/-- The largest finite value. -/
theorem big_val : ∃ M : ℝ, Ideal.ofBits .f32 0x7F7FFFFF#32 = (M : EReal) ∧ M ≤ (2 : ℝ) ^ (128 : ℤ) := by
  refine ⟨_, word_val _ 254 8388607 (by decide) (by decide) (by decide) (by omega) (by omega), ?_⟩
  norm_num

/-- One over the first format's largest number, rounded. -/
theorem c43_val : ∃ k : ℝ, Ideal.ofBits .f32 0x3B124925#32 = (k : EReal) ∧ 0 ≤ k ∧ k ≤ 1 / 8 := by
  refine ⟨_, word_val _ 118 1198373 (by decide) (by decide) (by decide) (by omega) (by omega), ?_, ?_⟩ <;> norm_num

/-- One over the second format's largest number, rounded. -/
theorem c52_val : ∃ k : ℝ, Ideal.ofBits .f32 0x37924925#32 = (k : EReal) ∧ 0 ≤ k ∧ k ≤ 1 / 8 := by
  refine ⟨_, word_val _ 111 1198373 (by decide) (by decide) (by decide) (by omega) (by omega), ?_, ?_⟩ <;> norm_num

theorem mag_nonneg (h : Vec Ideal S3x16 .f32) (r : Fin 3) (w : BitVec 32) : 0 ≤ mag h r w := by
  unfold mag
  show (0 : EReal) ≤ max _ (-_)
  generalize Scalar.mulf (F := Ideal) (φ := .f32) (rowMax h r) (Scalar.ofBits (F := Ideal) .f32 w) = x
  rcases le_total (0 : EReal) x with h0 | h0
  · exact le_max_of_le_left h0
  · exact le_max_of_le_right (EReal.neg_nonneg.2 h0)

theorem mag_lt (h : Vec Ideal S3x16 .f32) (hb : ∀ i, max (h i : EReal) (-(h i)) ≤ Ideal.ofBits .f32 0x7F7FFFFF#32) (r : Fin 3)
    (w : BitVec 32) (hw : ∃ k : ℝ, Ideal.ofBits .f32 w = (k : EReal) ∧ 0 ≤ k ∧ k ≤ 1 / 8) : mag h r w < pow2 253 := by
  obtain ⟨M, hM, hM'⟩ := big_val
  obtain ⟨k, hk, hk0, hk1⟩ := hw
  rw [hM] at hb
  have hu : rowMax h r ≤ (M : EReal) := (rowMax_le h r _).2 fun j => le_trans (le_max_left _ _) (hb _)
  have hl : ((-M : ℝ) : EReal) ≤ rowMax h r := by
    refine le_trans ?_ ((rowMax_le h r _).1 le_rfl 0)
    have h2 := le_trans (le_max_right _ _) (hb (ValueIdx.ix2 r (0 : Fin 16)))
    rw [EReal.coe_neg]
    exact EReal.neg_le_of_neg_le h2
  unfold mag
  show max ((rowMax h r : EReal) * Ideal.ofBits .f32 w) (-((rowMax h r : EReal) * Ideal.ofBits .f32 w)) < _
  rw [hk]
  generalize (rowMax h r : EReal) = R at hu hl
  have ht : R ≠ ⊤ := fun e => by rw [e] at hu; exact absurd hu (not_le.2 (EReal.coe_lt_top _))
  have hbt : R ≠ ⊥ := fun e => by rw [e] at hl; exact absurd hl (not_le.2 (EReal.bot_lt_coe _))
  lift R to ℝ using ⟨ht, hbt⟩
  rw [EReal.coe_le_coe_iff] at hu hl
  rw [pow2_coe 253 (by omega) (by omega), ← EReal.coe_mul, ← EReal.coe_neg, max_lt_iff, EReal.coe_lt_coe_iff, EReal.coe_lt_coe_iff]
  have hM0 : 0 ≤ M := by linarith
  have e1 : R * k ≤ M * (1 / 8) := (mul_le_mul_of_nonneg_right hu hk0).trans (mul_le_mul_of_nonneg_left hk1 hM0)
  have e2 : -(R * k) ≤ M * (1 / 8) := by
    rw [← neg_mul]
    exact (mul_le_mul_of_nonneg_right (by linarith : -R ≤ M) hk0).trans (mul_le_mul_of_nonneg_left hk1 hM0)
  have e3 : M * (1 / 8) < (2 : ℝ) ^ (((253 : ℕ) : ℤ) - 127) := by
    norm_num at hM' ⊢
    linarith
  exact ⟨lt_of_le_of_lt e1 e3, lt_of_le_of_lt e2 e3⟩

/-- A finite history: every entry's absolute value is at most the largest finite number. -/
def Fine (h : Vec Ideal S3x16 .f32) : Prop := ∀ i, max (h i : EReal) (-(h i)) ≤ Ideal.ofBits .f32 0x7F7FFFFF#32

theorem spec_x (h : Vec Ideal S3x16 .f32) (hb : Fine h) : scale (bx h) = refScale (bx h) ∧ recip (bx h) = Ideal.div 1 (refScale (bx h)) :=
  scale_spec (mag_nonneg h 0 _) (mag_lt h hb 0 _ c43_val)
theorem spec_w (h : Vec Ideal S3x16 .f32) (hb : Fine h) : scale (bw h) = refScale (bw h) ∧ recip (bw h) = Ideal.div 1 (refScale (bw h)) :=
  scale_spec (mag_nonneg h 1 _) (mag_lt h hb 1 _ c43_val)
theorem spec_d (h : Vec Ideal S3x16 .f32) (hb : Fine h) : scale (bd h) = refScale (bd h) ∧ recip (bd h) = Ideal.div 1 (refScale (bd h)) :=
  scale_spec (mag_nonneg h 2 _) (mag_lt h hb 2 _ c52_val)

end Cert.ReferenceIdeal.Value
-- ==== Proof.Value.Both.lean ====
module

public import proofs.«01_k».proof.Proof.Value.RefHost
public import proofs.«01_k».proof.Proof.Value.Bound

/-! The ten results as functions of the arguments, and that each of the two programs ends with them. -/

@[expose] public section

set_option maxRecDepth 65536

noncomputable section

namespace Cert.Both

open Idealize.ShloMosaic Idealize.ShloMosaic.TcCoe Idealize.SL.Sem
open Cert.Scale
open Cert.KernelIdeal.Value (codes43 codes52 wholeY wholeX wholeW bx bw bd amax newHist)
open Cert.ReferenceIdeal.Value (Fine spec_x spec_w spec_d)

/-- The scales. -/
def sx (h : Vec Ideal Cert.KernelIdeal.S3x16 .f32) : EReal := refScale (bx h)
def sw (h : Vec Ideal Cert.KernelIdeal.S3x16 .f32) : EReal := refScale (bw h)
def sd (h : Vec Ideal Cert.KernelIdeal.S3x16 .f32) : EReal := refScale (bd h)

/-- The codes. -/
def qx (h : Vec Ideal Cert.KernelIdeal.S3x16 .f32) (x : FVec Ideal Cert.KernelIdeal.S6144x3200 .bf16) : FVec Ideal Cert.KernelIdeal.S6144x3200 .fp8e4m3 :=
  codes43 (s := Cert.KernelIdeal.S6144x3200) (Ideal.div 1 (sx h)) x
def qw (h : Vec Ideal Cert.KernelIdeal.S3x16 .f32) (w : FVec Ideal Cert.KernelIdeal.S3200x2048 .bf16) : FVec Ideal Cert.KernelIdeal.S3200x2048 .fp8e4m3 :=
  codes43 (s := Cert.KernelIdeal.S3200x2048) (Ideal.div 1 (sw h)) w
def qd (h : Vec Ideal Cert.KernelIdeal.S3x16 .f32) (d : FVec Ideal Cert.KernelIdeal.S6144x2048 .bf16) : FVec Ideal Cert.KernelIdeal.S6144x2048 .fp8e5m2 :=
  codes52 (s := Cert.KernelIdeal.S6144x2048) (Ideal.div 1 (sd h)) d

section Kernel

open Cert.KernelIdeal Cert.KernelIdeal.Gen Cert.KernelIdeal.Value

variable (m : (ℓ : Loc nD τ sig) → Buf (Elt Ideal) ℓ) (ρ : Dev nD → PrngReg) (c : Dev nD)

theorem cX_eq (hf : Fine (aH m c)) : cX m c = qx (aH m c) (aX m c) := by
  unfold qx sx; rw [← (spec_x _ hf).2]
theorem cW_eq (hf : Fine (aH m c)) : cW m c = qw (aH m c) (aW m c) := by
  unfold qw sw; rw [← (spec_w _ hf).2]
theorem cD_eq (hf : Fine (aH m c)) : cD m c = qd (aH m c) (aD m c) := by
  unfold qd sd; rw [← (spec_d _ hf).2]

theorem k_y (hf : Fine (aH m c)) : W5 m ρ c (Proc.devRef .tc main_v3_0)
    = wholeY (M := 6144) (sx (aH m c) * sw (aH m c)) (qx (aH m c) (aX m c)) (qw (aH m c) (aW m c)) := by
  rw [end_y, cX_eq m c hf, cW_eq m c hf, (spec_x _ hf).1, (spec_w _ hf).1]; rfl
theorem k_dx (hf : Fine (aH m c)) : W5 m ρ c (Proc.devRef .tc main_v3_1)
    = wholeX (sd (aH m c) * sw (aH m c)) (qd (aH m c) (aD m c)) (qw (aH m c) (aW m c)) := by
  rw [end_dx, cD_eq m c hf, cW_eq m c hf, (spec_d _ hf).1, (spec_w _ hf).1]; rfl
theorem k_dw (hf : Fine (aH m c)) : W5 m ρ c (Proc.devRef .tc main_v5_0)
    = wholeW (M := 3200) (sx (aH m c) * sd (aH m c)) (qx (aH m c) (aX m c)) (qd (aH m c) (aD m c)) := by
  rw [end_dw, cX_eq m c hf, cD_eq m c hf, (spec_x _ hf).1, (spec_d _ hf).1]; rfl
theorem k_xs (hf : Fine (aH m c)) : W5 m ρ c (Proc.devRef .tc main_v5_1) = (fun _ => sx (aH m c) : Vec Ideal S1 .f32) := by
  rw [end_xs, (spec_x _ hf).1]; rfl
theorem k_ws (hf : Fine (aH m c)) : W5 m ρ c (Proc.devRef .tc main_v5_2) = (fun _ => sw (aH m c) : Vec Ideal S1 .f32) := by
  rw [end_ws, (spec_w _ hf).1]; rfl
theorem k_ds (hf : Fine (aH m c)) : W5 m ρ c (Proc.devRef .tc main_v5_3) = (fun _ => sd (aH m c) : Vec Ideal S1 .f32) := by
  rw [end_ds, (spec_d _ hf).1]; rfl

end Kernel

section Reference

open Cert.ReferenceIdeal Cert.ReferenceIdeal.Gen Cert.ReferenceIdeal.Value

variable (m : (ℓ : Loc nD τ sig) → Buf (Elt Ideal) ℓ) (c : Dev nD)

theorem s0_eq : s0 m c = sx (bH m c) := congrFun (V_v12 m c) _
theorem s1_eq : s1 m c = sw (bH m c) := congrFun (V_v24 m c) _
theorem s2_eq : s2 m c = sd (bH m c) := congrFun (V_v36 m c) _
theorem rX_eq : rX m c = qx (bH m c) (bX m c) := by
  unfold rX qx; rw [s0_eq, V_v57]
theorem rW_eq : rW m c = qw (bH m c) (bW m c) := by
  unfold rW qw; rw [s1_eq, show V m c main_arg1 = bW m c from V_main_arg1 m c]
theorem rD_eq : rD m c = qd (bH m c) (bD m c) := by
  unfold rD qd; rw [s2_eq, V_v58]

theorem r_y : (dats m 0 c).arrAt 6 cfg0.N
    = wholeY (M := 6144) (sx (bH m c) * sw (bH m c)) (qx (bH m c) (bX m c)) (qw (bH m c) (bW m c)) := by
  rw [arr_6, s0_eq, s1_eq, rX_eq, rW_eq]
theorem r_dx : (dats m 0 c).arrAt 7 cfg0.N
    = wholeX (sd (bH m c) * sw (bH m c)) (qd (bH m c) (bD m c)) (qw (bH m c) (bW m c)) := by
  rw [arr_7, s2_eq, s1_eq, rD_eq, rW_eq]
theorem r_dw : (dats m 0 c).arrAt 8 cfg0.N
    = wholeW (M := 3200) (sx (bH m c) * sd (bH m c)) (qx (bH m c) (bX m c)) (qd (bH m c) (bD m c)) := by
  rw [arr_8, s0_eq, s2_eq, rX_eq, rD_eq]

variable (r : PUnit × MemSt nD τ sig (Elt Ideal)) (h : Pipeline.FramePost cfgs (dats m) 0 (V m) r)
include h

/-! What the reference's run leaves. -/
theorem p_y : r.2.mem ((c : Thread nD τ).loc main_v59_0)
    = wholeY (M := 6144) (sx (bH m c) * sw (bH m c)) (qx (bH m c) (bX m c)) (qw (bH m c) (bW m c)) := (post6 m r h c).trans (r_y m c)
theorem p_dx : r.2.mem ((c : Thread nD τ).loc main_v59_1)
    = wholeX (sd (bH m c) * sw (bH m c)) (qd (bH m c) (bD m c)) (qw (bH m c) (bW m c)) := (post7 m r h c).trans (r_dx m c)
theorem p_dw : r.2.mem ((c : Thread nD τ).loc main_v59_2)
    = wholeW (M := 3200) (sx (bH m c) * sd (bH m c)) (qx (bH m c) (bX m c)) (qd (bH m c) (bD m c)) := (post8 m r h c).trans (r_dw m c)
theorem p_xc : r.2.mem ((c : Thread nD τ).loc main_v59_3) = qx (bH m c) (bX m c) :=
  (post9 m r h c).trans ((arr_9 m c).trans (rX_eq m c))
theorem p_wc : r.2.mem ((c : Thread nD τ).loc main_v59_4) = qw (bH m c) (bW m c) :=
  (post10 m r h c).trans ((arr_10 m c).trans (rW_eq m c))
theorem p_dc : r.2.mem ((c : Thread nD τ).loc main_v59_5) = qd (bH m c) (bD m c) :=
  (post11 m r h c).trans ((arr_11 m c).trans (rD_eq m c))
theorem p_xs : r.2.mem ((c : Thread nD τ).loc main_v12) = (fun _ => sx (bH m c) : Vec Ideal S1 .f32) :=
  ((h c).1 3).trans (((dats m 0 c).arrAt_in 3 rfl _).trans ((A_eq m c 3).trans (V_v12 m c)))
theorem p_ws : r.2.mem ((c : Thread nD τ).loc main_v24) = (fun _ => sw (bH m c) : Vec Ideal S1 .f32) :=
  ((h c).1 4).trans (((dats m 0 c).arrAt_in 4 rfl _).trans ((A_eq m c 4).trans (V_v24 m c)))
theorem p_ds : r.2.mem ((c : Thread nD τ).loc main_v36) = (fun _ => sd (bH m c) : Vec Ideal S1 .f32) :=
  ((h c).1 5).trans (((dats m 0 c).arrAt_in 5 rfl _).trans ((A_eq m c 5).trans (V_v36 m c)))
theorem p_hist : r.2.mem ((c : Thread nD τ).loc main_v56) = newHist (bH m c) (bS m c)
    (amax (s := S6144x3200) (bX m c)) (amax (s := S3200x2048) (bW m c)) (amax (s := S6144x2048) (bD m c)) :=
  ((h c).2 main_v56 (Pipeline.mem_restRefs_of main_v56 (by decide) (by decide))).trans (V_v56 m c)

end Reference

end Cert.Both
-- ==== Proof.lean ====
module

public import proofs.«01_k».proof.Defs
public import proofs.«01_k».proof.Proof.KernelFrame
public import proofs.«01_k».proof.Proof.Frame.Run
public import proofs.«01_k».proof.Proof.RefValues
public import proofs.«01_k».proof.Proof.Value.Both
public import proofs.«01_k».proof.Proof.Gen.ReferenceIdeal.Frame
public import Idealize.ShloMosaic.Adequacy
public import Idealize.ShloMosaic.Init

@[expose] public section

set_option maxRecDepth 65536

noncomputable section

namespace Cert.Proof

open Idealize.ShloMosaic Idealize.SL.Sem Cert.Both
open Cert.KernelIdeal.Value (aH aX aW aD wholeY wholeX wholeW amax newHist end_y end_xcodes end_wcodes end_dcodes end_hist)
open Cert.ReferenceIdeal.Value (bH bX bW bD bS Fine)

/-- The precondition's one side condition. -/
theorem preFacts : Cert.Pre_finite_history.Facts := ⟨by decide⟩

/-- What the precondition says of the history. -/
theorem fine (m : (ℓ : Loc Cert.KernelIdeal.nD Cert.KernelIdeal.τ Cert.KernelIdeal.sig) → Buf (Elt Ideal) ℓ)
    (hpre : Cert.Pre_KernelIdeal_finite_history (hPre_finite_history := preFacts) m) (c : Dev Cert.KernelIdeal.nD) : Fine (aH m c) := by
  intro i
  have h := congrFun (hpre c) i
  change BitVec.ofBool (decide (max (aH m c i : EReal) (-(aH m c i)) ≤ Ideal.ofBits .f32 0x7F7FFFFF#32)) = 1#1 at h
  by_contra hn
  rw [decide_eq_false hn] at h
  exact absurd h (by decide)

/-- All ten results of the kernel are the reference's. -/
theorem algebraic : Cert.algebraic_KernelIdeal_ReferenceIdeal_pre_finite_history (hKernelIdeal := Cert.KernelIdeal.Gen.facts)
    (hReferenceIdeal := Cert.ReferenceIdeal.Gen.facts) (hPre_finite_history := preFacts) := by
  intro m g m' g' hpre hargs
  have hf := fine m hpre
  have hH : ∀ c, bH m' c = aH m c := fun c => (hargs c).2.2.2.1
  have hX : ∀ c, bX m' c = aX m c := fun c => congrArg (fun x => shapeCast Cert.KernelIdeal.S6144x3200 x Cert.KernelIdeal.Gen.shapeCasts_S2x3072x3200_S6144x3200) (hargs c).1
  have hW : ∀ c, bW m' c = aW m c := fun c => (hargs c).2.1
  have hD : ∀ c, bD m' c = aD m c := fun c => congrArg (fun x => shapeCast Cert.KernelIdeal.S6144x2048 x Cert.KernelIdeal.Gen.shapeCasts_S2x3072x2048_S6144x2048) (hargs c).2.2.1
  have hS : ∀ c, bS m' c = (m ((c.tc : Thread Cert.KernelIdeal.nD Cert.KernelIdeal.τ).loc Cert.KernelIdeal.main_arg4) : Vec Ideal Cert.KernelIdeal.S_ .i32) ValueIdx.ix0 :=
    fun c => congrFun (hargs c).2.2.2.2 ValueIdx.ix0
  refine ⟨fun c => wholeY (M := 6144) (sx (aH m c) * sw (aH m c)) (qx (aH m c) (aX m c)) (qw (aH m c) (aW m c)),
    fun c => wholeX (sd (aH m c) * sw (aH m c)) (qd (aH m c) (aD m c)) (qw (aH m c) (aW m c)),
    fun c => wholeW (M := 3200) (sx (aH m c) * sd (aH m c)) (qx (aH m c) (aX m c)) (qd (aH m c) (aD m c)),
    fun c => qx (aH m c) (aX m c), fun c => (fun _ => sx (aH m c) : Vec Ideal Cert.KernelIdeal.S1 .f32),
    fun c => qw (aH m c) (aW m c), fun c => (fun _ => sw (aH m c) : Vec Ideal Cert.KernelIdeal.S1 .f32),
    fun c => qd (aH m c) (aD m c), fun c => (fun _ => sd (aH m c) : Vec Ideal Cert.KernelIdeal.S1 .f32),
    fun c => newHist (aH m c) ((m ((c.tc : Thread Cert.KernelIdeal.nD Cert.KernelIdeal.τ).loc Cert.KernelIdeal.main_arg4) : Vec Ideal Cert.KernelIdeal.S_ .i32) ValueIdx.ix0)
      (amax (s := Cert.KernelIdeal.S6144x3200) (aX m c)) (amax (s := Cert.KernelIdeal.S3200x2048) (aW m c)) (amax (s := Cert.KernelIdeal.S6144x2048) (aD m c)), ?_, ?_⟩
  · open Cert.KernelIdeal Cert.KernelIdeal.Gen in
    exact (θ_run defs _ _).mono (fun _ h c =>
      ⟨(h.1 c _ (mem_uc main_v3_0 (by decide))).trans (k_y m g c (hf c)),
       (h.1 c _ (mem_uc main_v3_1 (by decide))).trans (k_dx m g c (hf c)),
       (h.1 c _ (mem_uc main_v5_0 (by decide))).trans (k_dw m g c (hf c)),
       (h.1 c _ (mem_uc main_v3_2 (by decide))).trans ((end_xcodes m g c).trans (cX_eq m c (hf c))),
       (h.1 c _ (mem_uc main_v5_1 (by decide))).trans (k_xs m g c (hf c)),
       (h.1 c _ (mem_uc main_v2_0 (by decide))).trans ((end_wcodes m g c).trans (cW_eq m c (hf c))),
       (h.1 c _ (mem_uc main_v5_2 (by decide))).trans (k_ws m g c (hf c)),
       (h.1 c _ (mem_uc main_v3_3 (by decide))).trans ((end_dcodes m g c).trans (cD_eq m c (hf c))),
       (h.1 c _ (mem_uc main_v5_3 (by decide))).trans (k_ds m g c (hf c)),
       (h.1 c _ (mem_uc main_v5_4 (by decide))).trans (end_hist m g c),
       (h.1 c _ (mem_uc main_arg0 (by decide))).trans (W5_main_arg0 m g c),
       (h.1 c _ (mem_uc main_arg1 (by decide))).trans (W5_main_arg1 m g c),
       (h.1 c _ (mem_uc main_arg2 (by decide))).trans (W5_main_arg2 m g c),
       (h.1 c _ (mem_uc main_arg3 (by decide))).trans (W5_main_arg3 m g c),
       (h.1 c _ (mem_uc main_arg4 (by decide))).trans (W5_main_arg4 m g c)⟩) (run m g)
  · open Cert.ReferenceIdeal Cert.ReferenceIdeal.Gen Cert.ReferenceIdeal.Value in
    exact (θ_run defs _ _).mono (fun r h c =>
      ⟨(p_y m' c r h).trans (by rw [hH, hX, hW]), (p_dx m' c r h).trans (by rw [hH, hD, hW]),
       (p_dw m' c r h).trans (by rw [hH, hX, hD]), (p_xc m' c r h).trans (by rw [hH, hX]),
       (p_xs m' c r h).trans (by rw [hH]), (p_wc m' c r h).trans (by rw [hH, hW]),
       (p_ws m' c r h).trans (by rw [hH]), (p_dc m' c r h).trans (by rw [hH, hD]),
       (p_ds m' c r h).trans (by rw [hH]), (p_hist m' c r h).trans (by rw [hH, hS, hX, hW, hD]),
       kept_main_arg0 m' r h c, kept_main_arg1 m' r h c, kept_main_arg2 m' r h c, kept_main_arg3 m' r h c, kept_main_arg4 m' r h c⟩)
      (run_main m' g')

theorem claim : Cert.Claim := ⟨Cert.Kernel.Gen.facts, Cert.KernelIdeal.Gen.facts, Cert.ReferenceIdeal.Gen.facts, preFacts,
  quiescent_of_frameAtBits (fun m g => Cert.KernelIdeal.Gen.frame m g),
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  trivial, algebraic⟩

end Cert.Proof

end
